-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma_beta_memory [hPre_finite_gamma_beta_memory : Cert.Pre_finite_gamma_beta_memory.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma_beta_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_gamma_beta_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_gamma_beta_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma_beta_memory [hPre_finite_gamma_beta_memory : Cert.Pre_finite_gamma_beta_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma_beta_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_gamma_beta_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_gamma_beta_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_gamma_beta_memory [hKernelIdeal : Cert.KernelIdeal.Facts] [hPre_finite_gamma_beta_memory : Cert.Pre_finite_gamma_beta_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma_beta_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_gamma_beta_memory [hReferenceIdeal : Cert.ReferenceIdeal.Facts] [hPre_finite_gamma_beta_memory : Cert.Pre_finite_gamma_beta_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma_beta_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_gamma_beta_memory [hKernelIdeal : Cert.KernelIdeal.Facts] [hReferenceIdeal : Cert.ReferenceIdeal.Facts] [hPre_finite_gamma_beta_memory : Cert.Pre_finite_gamma_beta_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma_beta_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_gamma_beta_memory : Cert.Pre_finite_gamma_beta_memory.Facts),
    quiescent_Kernel (hKernel := hKernel)
    ∧ quiescent_KernelIdeal (hKernelIdeal := hKernelIdeal)
    ∧ quiescent_KernelIdeal_pre_finite_gamma_beta_memory (hKernelIdeal := hKernelIdeal) (hPre_finite_gamma_beta_memory := hPre_finite_gamma_beta_memory)
    ∧ quiescent_ReferenceIdeal (hReferenceIdeal := hReferenceIdeal)
    ∧ quiescent_ReferenceIdeal_pre_finite_gamma_beta_memory (hReferenceIdeal := hReferenceIdeal) (hPre_finite_gamma_beta_memory := hPre_finite_gamma_beta_memory)
    ∧ preserves_Kernel_KernelIdeal
    ∧ algebraic_KernelIdeal_ReferenceIdeal_pre_finite_gamma_beta_memory (hKernelIdeal := hKernelIdeal) (hReferenceIdeal := hReferenceIdeal) (hPre_finite_gamma_beta_memory := hPre_finite_gamma_beta_memory)
-- ==== Pre_finite_gamma_beta_memory.lean ====
abbrev S2x2048x768 : Shape := ⟨3, ![2, 2048, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S16384x768 : Shape := ⟨2, ![16384, 768]⟩
abbrev S_ : Shape := ⟨0, ![]⟩

class Facts : Prop where
  bcast_S_S768 : S_.BroadcastsInDim S768 (![] : Fin 0 → Fin S768.rank)
  bcast_S_S16384x768 : S_.BroadcastsInDim S16384x768 (![] : Fin 0 → Fin S16384x768.rank)

variable [Facts]

def fn {F : FTy → Type} [FloatOps F] (main_arg0 : FVec F S2x2048x768 .f32) (main_arg1 : FVec F S768x1536 .f32) (main_arg2 : FVec F S1536 .f32) (main_arg3 : FVec F S1536x768 .f32) (main_arg4 : FVec F S768 .f32) (main_arg5 : FVec F S768 .f32) (main_arg6 : FVec F S768 .f32) (main_arg7 : FVec F S16384x768 .f32) : IVec S768 1 × IVec S768 1 × IVec S16384x768 1 :=
  let main_v0 : FVec F S768 .f32 := Host.absf main_arg5
  let main_cst : FVec F S_ .f32 := constant S_ .f32 0x7F800000#32
  let main_v1 : FVec F S768 .f32 := broadcastInDim S768 ![] bcast_S_S768 main_cst
  let main_v2 : IVec S768 1 := cmpf .olt main_v0 main_v1
  let main_v3 : FVec F S768 .f32 := Host.absf main_arg6
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S16384x768 .f32 := Host.absf main_arg7
  let main_cst_1 : FVec F S_ .f32 := constant S_ .f32 0x7F800000#32
  let main_v7 : FVec F S16384x768 .f32 := broadcastInDim S16384x768 ![] bcast_S_S16384x768 main_cst_1
  let main_v8 : IVec S16384x768 1 := cmpf .olt main_v6 main_v7
  (main_v2, main_v5, main_v8)
-- ==== Kernel.lean ====
abbrev S2x2048x768 : Shape := ⟨3, ![2, 2048, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S16384x768 : Shape := ⟨2, ![16384, 768]⟩
abbrev S4096x768 : Shape := ⟨2, ![4096, 768]⟩
abbrev S1x1536 : Shape := ⟨2, ![1, 1536]⟩
abbrev S1x768 : Shape := ⟨2, ![1, 768]⟩
abbrev S4096x8 : Shape := ⟨2, ![4096, 8]⟩
abbrev S256x768 : Shape := ⟨2, ![256, 768]⟩
abbrev S256x8 : Shape := ⟨2, ![256, 8]⟩
abbrev S8x4096 : Shape := ⟨2, ![8, 4096]⟩
abbrev S4096x640 : Shape := ⟨2, ![4096, 640]⟩
abbrev S256x1536 : Shape := ⟨2, ![256, 1536]⟩
abbrev S256 : Shape := ⟨1, ![256]⟩
abbrev S256x1 : Shape := ⟨2, ![256, 1]⟩
abbrev S256x640 : Shape := ⟨2, ![256, 640]⟩
abbrev S8x768 : Shape := ⟨2, ![8, 768]⟩
abbrev S1024x768 : Shape := ⟨2, ![1024, 768]⟩
abbrev S256x1024 : Shape := ⟨2, ![256, 1024]⟩
abbrev S1x128 : Shape := ⟨2, ![1, 128]⟩
abbrev S256x128 : Shape := ⟨2, ![256, 128]⟩
abbrev S4096x1 : Shape := ⟨2, ![4096, 1]⟩
abbrev S4096 : Shape := ⟨1, ![4096]⟩
abbrev S2x2048 : Shape := ⟨2, ![2, 2048]⟩

abbrev nBuf : Space → Nat
  | .hbm => 19
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S768x1536, .f32⟩
  | .hbm, ⟨2, _⟩ => ⟨S1536, .f32⟩
  | .hbm, ⟨3, _⟩ => ⟨S1536x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S16384x768, .f32⟩
  | .hbm, ⟨8, _⟩ => ⟨S4096x768, .f32⟩
  | .hbm, ⟨9, _⟩ => ⟨S768x1536, .bf16⟩
  | .hbm, ⟨10, _⟩ => ⟨S1x1536, .f32⟩
  | .hbm, ⟨11, _⟩ => ⟨S1536x768, .bf16⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S4096x8, .f32⟩
  | .hbm, ⟨16, _⟩ => ⟨S4096x1, .f32⟩
  | .hbm, ⟨17, _⟩ => ⟨S4096, .f32⟩
  | .hbm, ⟨18, _⟩ => ⟨S2x2048, .f32⟩
  | .local _ .vmem, ⟨0, _⟩ => ⟨S256x768, .f32⟩
  | .local _ .vmem, ⟨1, _⟩ => ⟨S256x768, .f32⟩
  | .local _ .vmem, ⟨2, _⟩ => ⟨S768x1536, .bf16⟩
  | .local _ .vmem, ⟨3, _⟩ => ⟨S1x1536, .f32⟩
  | .local _ .vmem, ⟨4, _⟩ => ⟨S1536x768, .bf16⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S4096x768, .f32⟩
  | .local _ .vmem, ⟨9, _⟩ => ⟨S4096x768, .f32⟩
  | .local _ .vmem, ⟨10, _⟩ => ⟨S256x8, .f32⟩
  | .local _ .vmem, ⟨11, _⟩ => ⟨S256x8, .f32⟩
  | .local _ .vmem, ⟨12, _⟩ => ⟨S4096x768, .bf16⟩
  | .local _ .vmem, ⟨13, _⟩ => ⟨S4096x8, .f32⟩
  | .local _ .vmem, ⟨14, _⟩ => ⟨S4096x768, .bf16⟩
  | .local _ .vmem, ⟨15, _⟩ => ⟨S8x4096, .f32⟩
  | .local _ .vmem, ⟨16, _⟩ => ⟨S4096x640, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c256_i32 : BitVec 32 := 256#32
  let v0 : BitVec 32 := Scalar.muli arg1 c256_i32
  let v63 : Index := Scalar.indexCast v0
  let c0_28 : Index := 0#32
  ![v63.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v72 : Index := Scalar.indexCast v0
  let c0_30 : Index := 0#32
  ![v72.toNat, 0]
def k0_off3 (i : grid0.Coords) : Fin 2 → Nat :=
  let arg1 : BitVec 32 := BitVec.ofNat 32 (i 1).val
  let c256_i32 : BitVec 32 := 256#32
  let v0 : BitVec 32 := Scalar.muli arg1 c256_i32
  let v77 : Index := Scalar.indexCast v0
  let c0_31 : Index := 0#32
  ![v77.toNat, 0]
def k0_cond3 (i : grid0.Coords) : BitVec 1 :=
  let arg0 : BitVec 32 := BitVec.ofNat 32 (i 0).val
  let c1_i32_3 : BitVec 32 := 1#32
  let v9 : BitVec 1 := Scalar.cmpi .sge arg0 c1_i32_3
  let v10 : BitVec 32 := Scalar.extui v9
  let c0_i32_5 : BitVec 32 := 0#32
  let v11 : BitVec 1 := Scalar.cmpi .ne v10 c0_i32_5
  v11

def k0_off4 (i : grid0.Coords) : Fin 2 → Nat :=
  let arg1 : BitVec 32 := BitVec.ofNat 32 (i 1).val
  let c256_i32 : BitVec 32 := 256#32
  let v0 : BitVec 32 := Scalar.muli arg1 c256_i32
  let v12 : Index := Scalar.indexCast v0
  let c0 : Index := 0#32
  ![v12.toNat, 0]
def k0_off5 (i : grid0.Coords) : Fin 2 → Nat :=
  let arg1 : BitVec 32 := BitVec.ofNat 32 (i 1).val
  let c256_i32 : BitVec 32 := 256#32
  let v0 : BitVec 32 := Scalar.muli arg1 c256_i32
  let v327 : Index := Scalar.indexCast v0
  let c0_51 : Index := 0#32
  ![v327.toNat, 0]
def k0_off6 (i : grid0.Coords) : Fin 2 → Nat :=
  let arg1 : BitVec 32 := BitVec.ofNat 32 (i 1).val
  let c256_i32 : BitVec 32 := 256#32
  let v0 : BitVec 32 := Scalar.muli arg1 c256_i32
  let v329 : Index := Scalar.indexCast v0
  let c128_52 : Index := 128#32
  ![v329.toNat, 128]
def k0_off7 (i : grid0.Coords) : Fin 2 → Nat :=
  let arg1 : BitVec 32 := BitVec.ofNat 32 (i 1).val
  let c256_i32 : BitVec 32 := 256#32
  let v0 : BitVec 32 := Scalar.muli arg1 c256_i32
  let v331 : Index := Scalar.indexCast v0
  let c256_53 : Index := 256#32
  ![v331.toNat, 256]
def k0_off8 (i : grid0.Coords) : Fin 2 → Nat :=
  let arg1 : BitVec 32 := BitVec.ofNat 32 (i 1).val
  let c256_i32 : BitVec 32 := 256#32
  let v0 : BitVec 32 := Scalar.muli arg1 c256_i32
  let v333 : Index := Scalar.indexCast v0
  let c384_54 : Index := 384#32
  ![v333.toNat, 384]
def k0_off9 (i : grid0.Coords) : Fin 2 → Nat :=
  let arg1 : BitVec 32 := BitVec.ofNat 32 (i 1).val
  let c256_i32 : BitVec 32 := 256#32
  let v0 : BitVec 32 := Scalar.muli arg1 c256_i32
  let v335 : Index := Scalar.indexCast v0
  let c512_55 : Index := 512#32
  ![v335.toNat, 512]
def k0_cond4 (i : grid0.Coords) : BitVec 1 :=
  let arg0 : BitVec 32 := BitVec.ofNat 32 (i 0).val
  let c4_i32 : BitVec 32 := 4#32
  let v372 : BitVec 1 := Scalar.cmpi .eq arg0 c4_i32
  let v373 : BitVec 32 := Scalar.extui v372
  let c0_i32_61 : BitVec 32 := 0#32
  let v374 : BitVec 1 := Scalar.cmpi .ne v373 c0_i32_61
  v374

def k0_off10 (i : grid0.Coords) : Fin 2 → Nat :=
  let arg1 : BitVec 32 := BitVec.ofNat 32 (i 1).val
  let c256_i32 : BitVec 32 := 256#32
  let v0 : BitVec 32 := Scalar.muli arg1 c256_i32
  let v506 : Index := Scalar.indexCast v0
  let c0_106 : Index := 0#32
  ![v506.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== ReferenceIdeal.lean ====
abbrev S2x2048x768 : Shape := ⟨3, ![2, 2048, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S16384x768 : Shape := ⟨2, ![16384, 768]⟩
abbrev S2x2048x1536 : Shape := ⟨3, ![2, 2048, 1536]⟩
abbrev S1x1x1536 : Shape := ⟨3, ![1, 1, 1536]⟩
abbrev S_ : Shape := ⟨0, ![]⟩
abbrev S1x1x768 : Shape := ⟨3, ![1, 1, 768]⟩
abbrev S2x2048 : Shape := ⟨2, ![2, 2048]⟩
abbrev S2x2048x1 : Shape := ⟨3, ![2, 2048, 1]⟩
abbrev S4096x768 : Shape := ⟨2, ![4096, 768]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x16384 : Shape := ⟨2, ![4096, 16384]⟩
abbrev S768x16384 : Shape := ⟨2, ![768, 16384]⟩
abbrev S4096x5 : Shape := ⟨2, ![4096, 5]⟩

abbrev nBuf : Space → Nat
  | .hbm => 102
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x1536, .f32⟩
  | .hbm, ⟨2, _⟩ => ⟨S1536, .f32⟩
  | .hbm, ⟨3, _⟩ => ⟨S1536x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S16384x768, .f32⟩
  | .hbm, ⟨8, _⟩ => ⟨S2x2048x1536, .f32⟩
  | .hbm, ⟨9, _⟩ => ⟨S1x1x1536, .f32⟩
  | .hbm, ⟨10, _⟩ => ⟨S2x2048x1536, .f32⟩
  | .hbm, ⟨11, _⟩ => ⟨S2x2048x1536, .f32⟩
  | .hbm, ⟨12, _⟩ => ⟨S_, .f32⟩
  | .hbm, ⟨13, _⟩ => ⟨S2x2048x1536, .f32⟩
  | .hbm, ⟨14, _⟩ => ⟨S2x2048x1536, .f32⟩
  | .hbm, ⟨15, _⟩ => ⟨S2x2048x768, .f32⟩
  | .hbm, ⟨16, _⟩ => ⟨S1x1x768, .f32⟩
  | .hbm, ⟨17, _⟩ => ⟨S2x2048x768, .f32⟩
  | .hbm, ⟨18, _⟩ => ⟨S2x2048x768, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .i32⟩
  | .hbm, ⟨26, _⟩ => ⟨S_, .f32⟩
  | .hbm, ⟨27, _⟩ => ⟨S2x2048, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x768, .f32⟩
  | .hbm, ⟨33, _⟩ => ⟨S2x2048x768, .f32⟩
  | .hbm, ⟨34, _⟩ => ⟨S2x2048x768, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S2x2048x768, .f32⟩
  | .hbm, ⟨50, _⟩ => ⟨S2x2048x768, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x1, .f32⟩
  | .hbm, ⟨55, _⟩ => ⟨S2x2048x768, .f32⟩
  | .hbm, ⟨56, _⟩ => ⟨S2x2048x768, .f32⟩
  | .hbm, ⟨57, _⟩ => ⟨S1x1x768, .f32⟩
  | .hbm, ⟨58, _⟩ => ⟨S2x2048x768, .f32⟩
  | .hbm, ⟨59, _⟩ => ⟨S2x2048x768, .f32⟩
  | .hbm, ⟨60, _⟩ => ⟨S1x1x768, .f32⟩
  | .hbm, ⟨61, _⟩ => ⟨S2x2048x768, .f32⟩
  | .hbm, ⟨62, _⟩ => ⟨S2x2048x768, .f32⟩
  | .hbm, ⟨63, _⟩ => ⟨S4096x768, .f32⟩
  | .hbm, ⟨64, _⟩ => ⟨S4096x768, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S16384x768, .f32⟩
  | .hbm, ⟨69, _⟩ => ⟨S_, .f32⟩
  | .hbm, ⟨70, _⟩ => ⟨S16384, .f32⟩
  | .hbm, ⟨71, _⟩ => ⟨S1x16384, .f32⟩
  | .hbm, ⟨72, _⟩ => ⟨S4096x16384, .f32⟩
  | .hbm, ⟨73, _⟩ => ⟨S4096x16384, .f32⟩
  | .hbm, ⟨74, _⟩ => ⟨S4096x16384, .f32⟩
  | .hbm, ⟨75, _⟩ => ⟨S768x16384, .f32⟩
  | .hbm, ⟨76, _⟩ => ⟨S4096x16384, .f32⟩
  | .hbm, ⟨77, _⟩ => ⟨S_, .f32⟩
  | .hbm, ⟨78, _⟩ => ⟨S4096x16384, .f32⟩
  | .hbm, ⟨79, _⟩ => ⟨S4096x16384, .f32⟩
  | .hbm, ⟨80, _⟩ => ⟨S4096x16384, .f32⟩
  | .hbm, ⟨81, _⟩ => ⟨S4096x16384, .f32⟩
  | .hbm, ⟨82, _⟩ => ⟨S4096x5, .f32⟩
  | .hbm, ⟨83, _⟩ => ⟨S4096x5, .i32⟩
  | .hbm, ⟨84, _⟩ => ⟨S4096x5, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S4096, .f32⟩
  | .hbm, ⟨101, _⟩ => ⟨S2x2048, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_values : Ref sig .tc := ⟨.hbm, 82, rfl⟩
abbrev main_indices : Ref sig .tc := ⟨.hbm, 83, rfl⟩
abbrev main_v44 : Ref sig .tc := ⟨.hbm, 84, rfl⟩
abbrev main_cst_6 : Ref sig .tc := ⟨.hbm, 85, rfl⟩
abbrev main_v45 : Ref sig .tc := ⟨.hbm, 86, rfl⟩
abbrev main_cst_7 : Ref sig .tc := ⟨.hbm, 87, rfl⟩
abbrev main_v46 : Ref sig .tc := ⟨.hbm, 88, rfl⟩
abbrev main_v47 : Ref sig .tc := ⟨.hbm, 89, rfl⟩
abbrev main_cst_8 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_cst_10 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩

abbrev nD : Nat := 1
abbrev τ : Topo := Topo.v7x

variable {F : FTy → Type} [FloatOps F]
-- ==== Proof.Around.lean ====
module

public import Idealize.ShloMosaic.Lib.Pipeline.FrameSuffix

@[expose] public section

noncomputable section

namespace Cert.Around

open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- What a run of a program around one pipeline leaves, read off relational proof data: on every core each array of the
    pipeline holds contents the data allow after the last write-back, and every buffer beside them holds what the host
    lines after the pipeline compute from some such arrays. -/
def ReadPost (cfg : Cfg sig Λ₀) (rdat : (c : Dev nD) → RDat τ Val Unit ℕ (UR sig nD τ) ℕ cfg c)
    (V₀ : Dev nD → Valuation τ sig Val) (ops : List (HloOp τ sig Val)) (r : PUnit × MemSt nD τ sig Val) : Prop :=
  ∀ c : Dev nD, (∀ w, (rdat c).ArrAt w cfg.N (r.2.mem ((cfg.win w).arr.view.loc (c : Thread nD τ))))
    ∧ ∃ A : (w : Fin cfg.W) → Buf Val ((cfg.win w).arr.view.loc (c.tc : Thread nD τ)), (∀ w, (rdat c).ArrAt w cfg.N (A w))
      ∧ ∀ b ∈ restRefs sig cfg.spec, r.2.mem ((c.tc : Thread nD τ).loc b)
        = StableHlo.after ops (withArrays cfg.spec c (V₀ c) A) (Proc.devRef .tc b)

variable (cfgs : P → Cfg sig Λ₀) (p : P) (kit : LaunchFacts (nD := nD) (τ := τ) cfgs p)
  (defs₀ : Defs nD τ sig Val Λ₀) (𝒱₀ : Variants)

include kit in
/-- The launch of a program that runs host lines, one pipeline and further host lines, from relational proof data: the
    later lines' results are kept as the values those lines compute from the arrays the pipeline left. -/
theorem run_read (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => Cfg.toPCfg (Val := Val) (cfgs q)) defs₀) (onTc main) (s₀ m g)
      (fun r => ReadPost (cfgs p) rdat V₀ opss.flatten r ∧ r.2.sem = fun _ => 0) := by
  classical
  let pcs : P → PCfg sig Λ₀ Val := fun q => Cfg.toPCfg (Val := Val) (cfgs q)
  let a : (q : P) → (pcs q).Adm := fun q => (cfgs q).toPCfg_adm
  have kit₀ : PLaunchFacts₀ (nD := nD) (τ := τ) pcs p := kit.toP.to₀
  have hq : ∀ c w, ((cfgs p).spec w).isOut = false → (rdat c).q w = shareOf (cfgs p).spec w := fun c w hw =>
    (rdat c).q_eq_shareOf_of_share_full (kit.toP (Val := Val)).win.arr_inj (hshare c) w hw
  let rest := restRefsP sig Prefetch.none (cfgs p).spec
  let V : (c : Dev nD) → (b : Ref sig .tc) → Buf Val ((c.tc : Thread nD τ).loc b) := fun c b => V₀ c (Proc.devRef .tc b)
  have hopen : ∀ c, ((RDat.familyOf pcs a p rdat p c).arraysAt (cfgs p).N : sProp 𝕄)
      ⊢ iprop(∃ A, ⌜∀ w, (rdat c).ArrAt w (cfgs p).N (A w)⌝ ∗ (rdat c).arrays A) := fun c => by
    rw [RDat.familyOf_self]; unfold RDat.arraysAt
    iintro Ha
    ihave Hb := (BI.bigSep_exists_pi Finset.univ (fun w B => iprop(⌜(rdat c).ArrAt w (cfgs p).N B⌝
        ∗ (((cfgs p).win w).arr.view.loc (c.tc : Thread nD τ) ↦[((cfgs p).win w).arr.view.set]{(rdat c).share w} B)))) $$ Ha
    icases Hb with ⟨%A, Hb⟩
    ihave Hc := (BI.bigSep_pure_sep Finset.univ (fun w => (rdat c).ArrAt w (cfgs p).N (A w))
        (fun w => ((cfgs p).win w).arr.view.loc (c.tc : Thread nD τ) ↦[((cfgs p).win w).arr.view.set]{(rdat c).share w} A w)) $$ Hb
    icases Hc with ⟨%hAt, Hc⟩
    iexists A
    isplitr
    · ipureintro; exact fun w => hAt w (Finset.mem_univ w)
    · unfold RDat.arrays
      iexact Hc
  have hclose : ∀ c A, (∀ w, (rdat c).ArrAt w (cfgs p).N (A w)) →
      ((rdat c).arrays A : sProp 𝕄) ⊢ (RDat.familyOf pcs a p rdat p c).arraysAt (cfgs p).N := fun c A hAt => by
    rw [RDat.familyOf_self]; unfold RDat.arraysAt RDat.arrays
    refine BI.bigSep_mono fun w _ => ?_
    show (((cfgs p).win w).arr.view.loc (c.tc : Thread nD τ) ↦[((cfgs p).win w).arr.view.set]{(rdat c).share w} A w : sProp 𝕄)
      ⊢ iprop(∃ B, ⌜(rdat c).ArrAt w (cfgs p).N B⌝ ∗ (((cfgs p).win w).arr.view.loc (c.tc : Thread nD τ) ↦[((cfgs p).win w).arr.view.set]{(rdat c).share w} B))
    iintro H
    iexists (A w)
    isplitr
    · ipureintro; exact hAt w
    · iexact H
  exact RDat.θ_run_region_pf_tail_quiescent pcs a (RDat.familyOf pcs a p rdat) () (kit₀.cellOf_inj a) p kit₀.win (OwnSemFacts.none (cfgs p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit₀.sharedIn kit₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A : (w : Fin (cfgs p).W) → Buf Val (((cfgs p).win w).arr.view.loc (c.tc : Thread nD τ)), ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]
      · iexists _; iexact Hp
      · iexact HU)
    (hin := fun c => by
      rw [RDat.familyOf_self]
      exact (show _ ⊢ ΦA (cfgs p).spec c by
        unfold ΦA; iintro ⟨Hp, -, Hr⟩
        isplitl [Hr] <;> iassumption).trans (hin c))
    (hout := fun c => by
      rw [RDat.familyOf_self]
      exact (hout c).trans (by
        rw [ownSems0_none]; unfold ΦA
        iintro ⟨Hr, Hp⟩
        isplitl [Hp]
        · iexact Hp
        isplitr
        · iempintro
        · iexact Hr))
    (htail := fun c Q' => by
      iintro ⟨Hk, Hb, Ha, HZ⟩
      ihave Hd := (hopen c) $$ Ha
      icases Hd with ⟨%A, %hAt, Ha⟩
      have hB : (rdat c).arrays A = arrBufs (cfgs p).spec c (fun b => withArrays (cfgs p).spec c (V₀ c) A (Proc.devRef .tc b)) :=
        ((rdat c).arrBufs_eq_arrays kit₀.sharedIn kit₀.arr_whole (hq c) _ A fun w =>
          (withArrays_arr_shared (cfgs p).spec c (V₀ c) A ((rdat c).ArrAt_sharedIn kit₀.sharedIn (V₀ c) (hA c) (cfgs p).N A hAt) w).symm).symm
      iapply (tail_seqs_bufs_b pcs defs₀ 𝒱₀ Prefetch.none (cfgs p).spec c (V₀ c) A opss hsub hfresh hkeep Q')
      isplitl [Hk]
      · iintro ⟨Hb2, Ha2, Hu⟩
        iapply Hk
        isplitl [Hb2]
        · iexact Hb2
        isplitl [Ha2]
        · iapply (hclose c A hAt); iapply (Entails.of_eq hB.symm); iexact Ha2
        iexists A
        isplitr
        · ipureintro; exact hAt
        · iexact Hu
      · isplitl [Hb]
        · iexact Hb
        isplitl [Ha]
        · iapply (Entails.of_eq hB); iexact Ha
        · iexact HZ)
    (QY := fun c s => ∃ A : (w : Fin (cfgs p).W) → Buf Val (((cfgs p).win w).arr.view.loc (c.tc : Thread nD τ)), (∀ w, (rdat c).ArrAt w (cfgs p).N (A w))
      ∧ ∀ b ∈ rest, s.mem ((c.tc : Thread nD τ).loc b) = StableHlo.after opss.flatten (withArrays (cfgs p).spec c (V₀ c) A) (Proc.devRef .tc b))
    (hY := fun c s' => by
      iintro ⟨-, HZ, HSI⟩
      icases HZ with ⟨%A, %hAt, HZ⟩
      unfold unscopedRestP
      ihave Hz := (pointsTo_read_all rest (fun b => (c.tc : Thread nD τ).loc b) (fun b => StableHlo.after opss.flatten (withArrays (cfgs p).spec c (V₀ c) A) (Proc.devRef .tc b)) s') $$ [HZ HSI]
      · isplitl [HZ] <;> iassumption
      icases Hz with ⟨%hz, HSI⟩
      imodintro
      isplitr
      · ipureintro; exact ⟨A, hAt, hz⟩
      · iexact HSI)
    (hQ := fun s h hz => ⟨fun c => ⟨fun w => by simpa only [RDat.familyOf_self] using (h c).1 w, by
      obtain ⟨A, hAt, hr⟩ := (h c).2.2
      refine ⟨A, hAt, fun b hb => hr b ?_⟩
      exact Finset.mem_sdiff.mpr ⟨hb, fun h => by obtain ⟨k, -, -⟩ := Finset.mem_image.mp h; exact k.elim0⟩⟩, hz⟩)

end Cert.Around
end
-- ==== Proof.IRunA.lean ====
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents type of a memref's buffer on a core. -/
abbrev Bf (c : Dev nD) {sp : Space} {S : Shape} {e : EltTy} (M : Memref sig .tc sp S e) : Type :=
  Buf (Elt F) (M.view.loc (c : Thread nD τ))
/-- A memref's buffer held whole at given contents. -/
abbrev pt (c : Dev nD) {sp : Space} {S : Shape} {e : EltTy} (M : Memref sig .tc sp S e) (f : Bf (F := F) c M) :
    sProp 𝕄 := M.view.loc (c : Thread nD τ) ↦{fullShare} f

/-- The word that decides whether a point loads a new tile of the memory: a later pass, its first row block. -/
def cond2 (i : grid0.Coords) : BitVec 1 :=
  Scalar.cmpi .ne (Scalar.extui (Scalar.andi (Scalar.cmpi .sge (BitVec.ofNat 32 (i 0).val) 1#32) (Scalar.cmpi .eq (BitVec.ofNat 32 (i 1).val) 0#32))) 0#32

/-- What a point of the first pass leaves: the features' rows, their squared norms and the empty candidate rows stored, everything else as it was. -/
noncomputable def runMlp (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (hc1 : k0_cond1 i = 1#1) (hc2 : cond2 i ≠ 1#1) (hc3 : k0_cond3 i ≠ 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f11 : Bf (F := F) c M11) (f12 : Bf (F := F) c M12) (f15 : Bf (F := F) c M15) :
    { W : Bf (F := F) c M11 × Bf (F := F) c M12 × Bf (F := F) c M15 //
      ∀ (f9 : Bf (F := F) c M9) (f10 : Bf (F := F) c M10) (f13 : Bf (F := F) c M13) (f14 : Bf (F := F) c M14) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 (f2) ∗ pt c M3 (f3) ∗ pt c M4 (f4) ∗ pt c M5 (f5) ∗ pt c M6 (f6) ∗ pt c M7 (f7) ∗ pt c M8 (f8) ∗ pt c M9 (f9) ∗ pt c M10 (f10) ∗ pt c M11 (W.1) ∗ pt c M12 (W.2.1) ∗ pt c M13 (f13) ∗ pt c M14 (f14) ∗ pt c M15 (W.2.2)) -∗ Q ⟨⟩))
        ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q } := by
  refine ⟨⟨?_, ?_, ?_⟩, fun f9 f10 f13 f14 E Q => ?run⟩
  case run =>
    iintro ⟨H2, H3, H4, H5, H6, H7, H8, H9, H10, H11, H12, H13, H14, H15, Hk⟩
    sl_unfold [cc0__body]
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.IRunB.lean ====
module

public import proofs.«01_k».proof.Proof.Gen.KernelIdeal.Frame
public import proofs.«01_k».proof.Proof.IRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a middle pass's first point leaves: the tile of the memory and its squared norms stored, its rows' candidates merged. -/
noncomputable def runTile (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (hc1 : k0_cond1 i ≠ 1#1) (hc2 : cond2 i = 1#1) (hc3 : k0_cond3 i = 1#1) (hc4 : k0_cond4 i ≠ 1#1)
    (f9 : Bf (F := F) c M9) (f11 : Bf (F := F) c M11) (f13 : Bf (F := F) c M13) (f14 : Bf (F := F) c M14) (f15 : Bf (F := F) c M15) :
    { W : Bf (F := F) c M13 × Bf (F := F) c M14 × Bf (F := F) c M15 //
      ∀ (f2 : Bf (F := F) c M2) (f3 : Bf (F := F) c M3) (f4 : Bf (F := F) c M4) (f5 : Bf (F := F) c M5) (f6 : Bf (F := F) c M6) (f7 : Bf (F := F) c M7) (f8 : Bf (F := F) c M8) (f10 : Bf (F := F) c M10) (f12 : Bf (F := F) c M12) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 (f2) ∗ pt c M3 (f3) ∗ pt c M4 (f4) ∗ pt c M5 (f5) ∗ pt c M6 (f6) ∗ pt c M7 (f7) ∗ pt c M8 (f8) ∗ pt c M9 (f9) ∗ pt c M10 (f10) ∗ pt c M11 (f11) ∗ pt c M12 (f12) ∗ pt c M13 (W.1) ∗ pt c M14 (W.2.1) ∗ pt c M15 (W.2.2)) -∗ Q ⟨⟩))
        ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q } := by
  refine ⟨⟨?_, ?_, ?_⟩, fun f2 f3 f4 f5 f6 f7 f8 f10 f12 E Q => ?run⟩
  case run =>
    iintro ⟨H2, H3, H4, H5, H6, H7, H8, H9, H10, H11, H12, H13, H14, H15, Hk⟩
    sl_unfold [cc0__body]
    sl_exec (disch := first | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.IRunC.lean ====
module

public import proofs.«01_k».proof.Proof.Gen.KernelIdeal.Frame
public import proofs.«01_k».proof.Proof.IRunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What another point of a middle pass leaves: its rows' candidates merged. -/
noncomputable def runScan (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (hc1 : k0_cond1 i ≠ 1#1) (hc2 : cond2 i ≠ 1#1) (hc3 : k0_cond3 i = 1#1) (hc4 : k0_cond4 i ≠ 1#1)
    (f11 : Bf (F := F) c M11) (f13 : Bf (F := F) c M13) (f14 : Bf (F := F) c M14) (f15 : Bf (F := F) c M15) :
    { W : Bf (F := F) c M15 //
      ∀ (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f12 : Bf (F := F) c M12) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 (f2) ∗ pt c M3 (f3) ∗ pt c M4 (f4) ∗ pt c M5 (f5) ∗ pt c M6 (f6) ∗ pt c M7 (f7) ∗ pt c M8 (f8) ∗ pt c M9 (f9) ∗ pt c M10 (f10) ∗ pt c M11 (f11) ∗ pt c M12 (f12) ∗ pt c M13 (f13) ∗ pt c M14 (f14) ∗ pt c M15 (W)) -∗ Q ⟨⟩))
        ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q } := by
  refine ⟨?_, fun f2 f3 f4 f5 f6 f7 f8 f9 f10 f12 E Q => ?run⟩
  case run =>
    iintro ⟨H2, H3, H4, H5, H6, H7, H8, H9, H10, H11, H12, H13, H14, H15, Hk⟩
    sl_unfold [cc0__body]
    sl_exec (disch := first | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.IRunD.lean ====
module

public import proofs.«01_k».proof.Proof.Gen.KernelIdeal.Frame
public import proofs.«01_k».proof.Proof.IRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the last pass's first point leaves: the tile stored, its rows' candidates merged, its rows' scores in the output block. -/
noncomputable def runTileEnd (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (hc1 : k0_cond1 i ≠ 1#1) (hc2 : cond2 i = 1#1) (hc3 : k0_cond3 i = 1#1) (hc4 : k0_cond4 i = 1#1)
    (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M10 × Bf (F := F) c M13 × Bf (F := F) c M14 × Bf (F := F) c M15 //
      ∀ (f2 : Bf (F := F) c M2) (f3 : Bf (F := F) c M3) (f4 : Bf (F := F) c M4) (f5 : Bf (F := F) c M5) (f6 : Bf (F := F) c M6) (f7 : Bf (F := F) c M7) (f8 : Bf (F := F) c M8) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 (f2) ∗ pt c M3 (f3) ∗ pt c M4 (f4) ∗ pt c M5 (f5) ∗ pt c M6 (f6) ∗ pt c M7 (f7) ∗ pt c M8 (f8) ∗ pt c M9 (f9) ∗ pt c M10 (W.1) ∗ pt c M11 (f11) ∗ pt c M12 (f12) ∗ pt c M13 (W.2.1) ∗ pt c M14 (W.2.2.1) ∗ pt c M15 (W.2.2.2)) -∗ Q ⟨⟩))
        ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q } := by
  refine ⟨⟨?_, ?_, ?_, ?_⟩, fun f2 f3 f4 f5 f6 f7 f8 E Q => ?run⟩
  case run =>
    iintro ⟨H2, H3, H4, H5, H6, H7, H8, H9, H10, H11, H12, H13, H14, H15, Hk⟩
    sl_unfold [cc0__body]
    sl_exec (disch := first | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.IRunE.lean ====
module

public import proofs.«01_k».proof.Proof.Gen.KernelIdeal.Frame
public import proofs.«01_k».proof.Proof.IRunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What another point of the last pass leaves: its rows' candidates merged, its rows' scores in the output block. -/
noncomputable def runScanEnd (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (hc1 : k0_cond1 i ≠ 1#1) (hc2 : cond2 i ≠ 1#1) (hc3 : k0_cond3 i = 1#1) (hc4 : k0_cond4 i = 1#1)
    (f10 : Bf (F := F) c M10) (f11 : Bf (F := F) c M11) (f12 : Bf (F := F) c M12) (f13 : Bf (F := F) c M13) (f14 : Bf (F := F) c M14) (f15 : Bf (F := F) c M15) :
    { W : Bf (F := F) c M10 × Bf (F := F) c M15 //
      ∀ (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 (f2) ∗ pt c M3 (f3) ∗ pt c M4 (f4) ∗ pt c M5 (f5) ∗ pt c M6 (f6) ∗ pt c M7 (f7) ∗ pt c M8 (f8) ∗ pt c M9 (f9) ∗ pt c M10 (W.1) ∗ pt c M11 (f11) ∗ pt c M12 (f12) ∗ pt c M13 (f13) ∗ pt c M14 (f14) ∗ pt c M15 (W.2)) -∗ Q ⟨⟩))
        ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q } := by
  refine ⟨⟨?_, ?_⟩, fun f2 f3 f4 f5 f6 f7 f8 f9 E Q => ?run⟩
  case run =>
    iintro ⟨H2, H3, H4, H5, H6, H7, H8, H9, H10, H11, H12, H13, H14, H15, Hk⟩
    sl_unfold [cc0__body]
    sl_exec (disch := first | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.IStep.lean ====
module

public import proofs.«01_k».proof.Proof.Gen.KernelIdeal.Frame
public import proofs.«01_k».proof.Proof.IRunE

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point of the first pass stores no tile. -/
theorem not2_of1 {i : grid0.Coords} : k0_cond1 i = 1#1 → cond2 i ≠ 1#1 := by
  have h : ∀ a : Fin 5, ∀ b : Fin 16, Scalar.cmpi .ne (Scalar.extui (Scalar.cmpi .eq (BitVec.ofNat 32 a.val) 0#32) : BitVec 32) 0#32 = 1#1 →
      Scalar.cmpi .ne (Scalar.extui (Scalar.andi (Scalar.cmpi .sge (BitVec.ofNat 32 a.val) 1#32) (Scalar.cmpi .eq (BitVec.ofNat 32 b.val) 0#32)) : BitVec 32) 0#32 ≠ 1#1 := by
    decide +kernel
  exact h (i 0) (i 1)
/-- A point of the first pass merges no candidates. -/
theorem not3_of1 {i : grid0.Coords} : k0_cond1 i = 1#1 → k0_cond3 i ≠ 1#1 := by
  have h : ∀ a : Fin 5, Scalar.cmpi .ne (Scalar.extui (Scalar.cmpi .eq (BitVec.ofNat 32 a.val) 0#32) : BitVec 32) 0#32 = 1#1 →
      Scalar.cmpi .ne (Scalar.extui (Scalar.cmpi .sge (BitVec.ofNat 32 a.val) 1#32) : BitVec 32) 0#32 ≠ 1#1 := by decide +kernel
  exact h (i 0)
/-- A point of a later pass merges candidates. -/
theorem is3_of_not1 {i : grid0.Coords} : k0_cond1 i ≠ 1#1 → k0_cond3 i = 1#1 := by
  have h : ∀ a : Fin 5, Scalar.cmpi .ne (Scalar.extui (Scalar.cmpi .eq (BitVec.ofNat 32 a.val) 0#32) : BitVec 32) 0#32 ≠ 1#1 →
      Scalar.cmpi .ne (Scalar.extui (Scalar.cmpi .sge (BitVec.ofNat 32 a.val) 1#32) : BitVec 32) 0#32 = 1#1 := by decide +kernel
  exact h (i 0)

open Classical in
/-- What the body at a point leaves in the output block and the five scratch buffers, by the point's case. -/
noncomputable def stepG (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    Bf (F := F) c M10 × Bf (F := F) c M11 × Bf (F := F) c M12 × Bf (F := F) c M13 × Bf (F := F) c M14 × Bf (F := F) c M15 :=
  if hc1 : k0_cond1 i = 1#1 then
    have hc2 := not2_of1 hc1
    have hc3 := not3_of1 hc1
    (f10, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.1, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.2.1, f13, f14, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.2.2)
  else
    have hc3 := is3_of_not1 hc1
    if hc2 : cond2 i = 1#1 then
      if hc4 : k0_cond4 i = 1#1 then
        ((runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.1, f11, f12, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.1, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.2.1, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.2.2)
      else
        (f10, f11, f12, (runTile c i M2 h2 M3 h3 M4 h4 M5 h5 M6 h6 M7 h7 M8 h8 M9 h9 M10 h10 M11 h11 M12 h12 M13 h13 M14 h14 M15 h15 hc1 hc2 hc3 hc4 f9 f11 f13 f14 f15).1.1, (runTile c i M2 h2 M3 h3 M4 h4 M5 h5 M6 h6 M7 h7 M8 h8 M9 h9 M10 h10 M11 h11 M12 h12 M13 h13 M14 h14 M15 h15 hc1 hc2 hc3 hc4 f9 f11 f13 f14 f15).1.2.1, (runTile c i M2 h2 M3 h3 M4 h4 M5 h5 M6 h6 M7 h7 M8 h8 M9 h9 M10 h10 M11 h11 M12 h12 M13 h13 M14 h14 M15 h15 hc1 hc2 hc3 hc4 f9 f11 f13 f14 f15).1.2.2)
    else
      if hc4 : k0_cond4 i = 1#1 then
        ((runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.1, f11, f12, f13, f14, (runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.2)
      else
        (f10, f11, f12, f13, f14, (runScan c i M2 h2 M3 h3 M4 h4 M5 h5 M6 h6 M7 h7 M8 h8 M9 h9 M10 h10 M11 h11 M12 h12 M13 h13 M14 h14 M15 h15 hc1 hc2 hc3 hc4 f11 f13 f14 f15).1)

/-- The step in the case of `runMlp`. -/
theorem stepG_mlp (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (hc1 : k0_cond1 i = 1#1) (hc2 : cond2 i ≠ 1#1) (hc3 : k0_cond3 i ≠ 1#1) :
    stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 = (f10, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.1, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.2.1, f13, f14, (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1.2.2) := by
  unfold stepG; rw [dif_pos hc1]

/-- The step in the case of `runTile`. -/
theorem stepG_tile (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (hc1 : k0_cond1 i ≠ 1#1) (hc2 : cond2 i = 1#1) (hc3 : k0_cond3 i = 1#1) (hc4 : k0_cond4 i ≠ 1#1) :
    stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 = (f10, f11, f12, (runTile c i M2 h2 M3 h3 M4 h4 M5 h5 M6 h6 M7 h7 M8 h8 M9 h9 M10 h10 M11 h11 M12 h12 M13 h13 M14 h14 M15 h15 hc1 hc2 hc3 hc4 f9 f11 f13 f14 f15).1.1, (runTile c i M2 h2 M3 h3 M4 h4 M5 h5 M6 h6 M7 h7 M8 h8 M9 h9 M10 h10 M11 h11 M12 h12 M13 h13 M14 h14 M15 h15 hc1 hc2 hc3 hc4 f9 f11 f13 f14 f15).1.2.1, (runTile c i M2 h2 M3 h3 M4 h4 M5 h5 M6 h6 M7 h7 M8 h8 M9 h9 M10 h10 M11 h11 M12 h12 M13 h13 M14 h14 M15 h15 hc1 hc2 hc3 hc4 f9 f11 f13 f14 f15).1.2.2) := by
  unfold stepG; rw [dif_neg hc1, dif_pos hc2, dif_neg hc4]

/-- The step in the case of `runScan`. -/
theorem stepG_scan (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (hc1 : k0_cond1 i ≠ 1#1) (hc2 : cond2 i ≠ 1#1) (hc3 : k0_cond3 i = 1#1) (hc4 : k0_cond4 i ≠ 1#1) :
    stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 = (f10, f11, f12, f13, f14, (runScan c i M2 h2 M3 h3 M4 h4 M5 h5 M6 h6 M7 h7 M8 h8 M9 h9 M10 h10 M11 h11 M12 h12 M13 h13 M14 h14 M15 h15 hc1 hc2 hc3 hc4 f11 f13 f14 f15).1) := by
  unfold stepG; rw [dif_neg hc1, dif_neg hc2, dif_neg hc4]

/-- The step in the case of `runTileEnd`. -/
theorem stepG_tileEnd (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (hc1 : k0_cond1 i ≠ 1#1) (hc2 : cond2 i = 1#1) (hc3 : k0_cond3 i = 1#1) (hc4 : k0_cond4 i = 1#1) :
    stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 = ((runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.1, f11, f12, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.1, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.2.1, (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2.2.2) := by
  unfold stepG; rw [dif_neg hc1, dif_pos hc2, dif_pos hc4]

/-- The step in the case of `runScanEnd`. -/
theorem stepG_scanEnd (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (hc1 : k0_cond1 i ≠ 1#1) (hc2 : cond2 i ≠ 1#1) (hc3 : k0_cond3 i = 1#1) (hc4 : k0_cond4 i = 1#1) :
    stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 = ((runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.1, f11, f12, f13, f14, (runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.2) := by
  unfold stepG; rw [dif_neg hc1, dif_neg hc2, dif_pos hc4]

/-- The body at a point, run from any contents, leaves the step's contents. -/
theorem stepG_run (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
      ∗ (iprop(pt c M2 f2 ∗ pt c M3 f3 ∗ pt c M4 f4 ∗ pt c M5 f5 ∗ pt c M6 f6 ∗ pt c M7 f7 ∗ pt c M8 f8 ∗ pt c M9 f9 ∗ pt c M10 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).1 ∗ pt c M11 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).2.1 ∗ pt c M12 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).2.2.1 ∗ pt c M13 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).2.2.2.1 ∗ pt c M14 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).2.2.2.2.1 ∗ pt c M15 (stepG c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15).2.2.2.2.2) -∗ Q ⟨⟩))
    ⊢ wp frame (wpE (defs₀ (F := F)) Variants.none c none) E (cc0__body i M2 h2 M3 h3 M4 h4 M5 h5 M6 h6 M7 h7 M8 h8 M9 h9 M10 h10 M11 h11 M12 h12 M13 h13 M14 h14 M15 h15) Q := by
  by_cases hc1 : k0_cond1 i = 1#1
  · have hc2 := not2_of1 hc1
    have hc3 := not3_of1 hc1
    rw [stepG_mlp c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc1 hc2 hc3]
    generalize runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15 = r
    dsimp only
    exact r.2 f9 f10 f13 f14 E Q
  have hc3 := is3_of_not1 hc1
  by_cases hc2 : cond2 i = 1#1
  · by_cases hc4 : k0_cond4 i = 1#1
    · rw [stepG_tileEnd c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc1 hc2 hc3 hc4]
      generalize runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15 = r
      dsimp only
      exact r.2 f2 f3 f4 f5 f6 f7 f8 E Q
    · rw [stepG_tile c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc1 hc2 hc3 hc4]
      generalize runTile c i M2 h2 M3 h3 M4 h4 M5 h5 M6 h6 M7 h7 M8 h8 M9 h9 M10 h10 M11 h11 M12 h12 M13 h13 M14 h14 M15 h15 hc1 hc2 hc3 hc4 f9 f11 f13 f14 f15 = r
      dsimp only
      exact r.2 f2 f3 f4 f5 f6 f7 f8 f10 f12 E Q
  · by_cases hc4 : k0_cond4 i = 1#1
    · rw [stepG_scanEnd c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc1 hc2 hc3 hc4]
      generalize runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15 = r
      dsimp only
      exact r.2 f2 f3 f4 f5 f6 f7 f8 f9 E Q
    · rw [stepG_scan c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc1 hc2 hc3 hc4]
      generalize runScan c i M2 h2 M3 h3 M4 h4 M5 h5 M6 h6 M7 h7 M8 h8 M9 h9 M10 h10 M11 h11 M12 h12 M13 h13 M14 h14 M15 h15 hc1 hc2 hc3 hc4 f11 f13 f14 f15 = r
      dsimp only
      exact r.2 f2 f3 f4 f5 f6 f7 f8 f9 f10 f12 E Q

end Cert.KernelIdeal.Hand

end
-- ==== Proof.IBody.lean ====
module

public import proofs.«01_k».proof.Proof.Gen.KernelIdeal.Frame
public import proofs.«01_k».proof.Proof.IStep
public import proofs.«01_k».proof.Proof.Around
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the five scratch buffers: the features' rows, their squared norms, the tile of the memory, its
    squared norms, the candidates. -/
abbrev Scr (F : FTy → Type) (c : Dev nD) : Type :=
  Bf (F := F) c (Memref.whole cc0_scratch0) × Bf (F := F) c (Memref.whole cc0_scratch1) × Bf (F := F) c (Memref.whole cc0_scratch2) × Bf (F := F) c (Memref.whole cc0_scratch3) × Bf (F := F) c (Memref.whole cc0_scratch4)

/-- A whole memref owned at what it reads is its buffer held at the contents it reads that from. -/
theorem owns_unread (c : Dev nD) {sp : Space} {S : Shape} {e : EltTy} {M : Memref sig .tc sp S e} (h : M.IsWhole) (X : S.Idx → Elt F e) :
    (owns (c : Thread nD τ) M fullShare X : sProp 𝕄) = pt c M (h.unread X) := by
  have key : ∀ f : Bf (F := F) c M, (owns (c : Thread nD τ) M fullShare (M.view.read (Elt F) f) : sProp 𝕄) = pt c M f := by
    obtain ⟨b, hsp, hsh, he, h⟩ := h
    subst hsp hsh he
    cases h
    intro f
    exact owns_whole (c : Thread nD τ) b fullShare f
  have h1 := key (h.unread X)
  rw [h.read_unread] at h1
  exact h1

/-- Window 0's staging buffer at a point is a whole buffer. -/
theorem hs0 (t : Fin cfg0.N) : (win0_0.stage (cfg0.slots t 0)).IsWhole := hstage0_0 ((cfg0.slots t 0).cast nbuf0_0)
/-- Window 1's staging buffer at a point is a whole buffer. -/
theorem hs1 (t : Fin cfg0.N) : (win0_1.stage (cfg0.slots t 1)).IsWhole := hstage0_1 ((cfg0.slots t 1).cast nbuf0_1)
/-- Window 2's staging buffer at a point is a whole buffer. -/
theorem hs2 (t : Fin cfg0.N) : (win0_2.stage (cfg0.slots t 2)).IsWhole := hstage0_2 ((cfg0.slots t 2).cast nbuf0_2)
/-- Window 3's staging buffer at a point is a whole buffer. -/
theorem hs3 (t : Fin cfg0.N) : (win0_3.stage (cfg0.slots t 3)).IsWhole := hstage0_3 ((cfg0.slots t 3).cast nbuf0_3)
/-- Window 4's staging buffer at a point is a whole buffer. -/
theorem hs4 (t : Fin cfg0.N) : (win0_4.stage (cfg0.slots t 4)).IsWhole := hstage0_4 ((cfg0.slots t 4).cast nbuf0_4)
/-- Window 5's staging buffer at a point is a whole buffer. -/
theorem hs5 (t : Fin cfg0.N) : (win0_5.stage (cfg0.slots t 5)).IsWhole := hstage0_5 ((cfg0.slots t 5).cast nbuf0_5)
/-- Window 6's staging buffer at a point is a whole buffer. -/
theorem hs6 (t : Fin cfg0.N) : (win0_6.stage (cfg0.slots t 6)).IsWhole := hstage0_6 ((cfg0.slots t 6).cast nbuf0_6)
/-- Window 7's staging buffer at a point is a whole buffer. -/
theorem hs7 (t : Fin cfg0.N) : (win0_7.stage (cfg0.slots t 7)).IsWhole := hstage0_7 ((cfg0.slots t 7).cast nbuf0_7)
/-- Window 8's staging buffer at a point is a whole buffer. -/
theorem hs8 (t : Fin cfg0.N) : (win0_8.stage (cfg0.slots t 8)).IsWhole := hstage0_8 ((cfg0.slots t 8).cast nbuf0_8)

/-- What the body at a point leaves in its output block and the scratch. -/
noncomputable def step (c : Dev nD) (t : Fin cfg0.N) (f10 : Bf (F := F) c (win0_8.stage (cfg0.slots t 8))) (S : Scr F c) :
    Bf (F := F) c (win0_8.stage (cfg0.slots t 8)) × Scr F c :=
  stepG c (grid0.coords t) (win0_0.stage (cfg0.slots t 0)) (hs0 t) (win0_1.stage (cfg0.slots t 1)) (hs1 t) (win0_2.stage (cfg0.slots t 2)) (hs2 t) (win0_3.stage (cfg0.slots t 3)) (hs3 t) (win0_4.stage (cfg0.slots t 4)) (hs4 t) (win0_5.stage (cfg0.slots t 5)) (hs5 t) (win0_6.stage (cfg0.slots t 6)) (hs6 t) (win0_7.stage (cfg0.slots t 7)) (hs7 t) (win0_8.stage (cfg0.slots t 8)) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) f10 S.1 S.2.1 S.2.2.1 S.2.2.2.1 S.2.2.2.2

section Data

variable (Inv : ℕ → (c : Dev nD) → Scr F c → Prop)

/-- The body's invariant before a point: the scratch at contents that meet the given property, the generator. -/
def Phi (c : Dev nD) (n : Fin (cfg0.N + 1)) : sProp 𝕄 :=
  iprop((∃ S : Scr F c, ⌜Inv n.val c S⌝ ∗ pt c (Memref.whole cc0_scratch0) S.1 ∗ pt c (Memref.whole cc0_scratch1) S.2.1 ∗ pt c (Memref.whole cc0_scratch2) S.2.2.1 ∗ pt c (Memref.whole cc0_scratch3) S.2.2.2.1 ∗ pt c (Memref.whole cc0_scratch4) S.2.2.2.2)
    ∗ ∃ r, prngReg c r)

/-- The pipeline's proof data: the arrays as the region finds them, each input's block left in place, the output's
    contents left to the relation. -/
def dat (c : Dev nD) : Dat τ (Elt F) Unit ℕ (UR sig nD τ) ℕ cfg0 c where
  A w := V m c (Pipeline.arrRef spec0 w)
  after w t := match w with | 0 => iblk m c 0 t | 1 => iblk m c 1 t | 2 => iblk m c 2 t | 3 => iblk m c 3 t | 4 => iblk m c 4 t | 5 => iblk m c 5 t | 6 => iblk m c 6 t | 7 => iblk m c 7 t | 8 => iblk m c 8 t | ⟨_ + 9, h⟩ => absurd h (Nat.not_lt.2 (Nat.le_add_left _ _))
  Φ := Phi Inv c
  q _ := fullShare
  owed _ := 0

/-- A point leaves window 0 at the block it read. -/
theorem dat_after0 (c : Dev nD) (t : Fin cfg0.N) : (dat m Inv c).after 0 t = iblk m c 0 t := rfl
/-- A point leaves window 1 at the block it read. -/
theorem dat_after1 (c : Dev nD) (t : Fin cfg0.N) : (dat m Inv c).after 1 t = iblk m c 1 t := rfl
/-- A point leaves window 2 at the block it read. -/
theorem dat_after2 (c : Dev nD) (t : Fin cfg0.N) : (dat m Inv c).after 2 t = iblk m c 2 t := rfl
/-- A point leaves window 3 at the block it read. -/
theorem dat_after3 (c : Dev nD) (t : Fin cfg0.N) : (dat m Inv c).after 3 t = iblk m c 3 t := rfl
/-- A point leaves window 4 at the block it read. -/
theorem dat_after4 (c : Dev nD) (t : Fin cfg0.N) : (dat m Inv c).after 4 t = iblk m c 4 t := rfl
/-- A point leaves window 5 at the block it read. -/
theorem dat_after5 (c : Dev nD) (t : Fin cfg0.N) : (dat m Inv c).after 5 t = iblk m c 5 t := rfl
/-- A point leaves window 6 at the block it read. -/
theorem dat_after6 (c : Dev nD) (t : Fin cfg0.N) : (dat m Inv c).after 6 t = iblk m c 6 t := rfl
/-- A point leaves window 7 at the block it read. -/
theorem dat_after7 (c : Dev nD) (t : Fin cfg0.N) : (dat m Inv c).after 7 t = iblk m c 7 t := rfl
/-- The proposition carried between points is the one over the scratch. -/
theorem dat_Φ (c : Dev nD) : (dat m Inv c).Φ = Phi Inv c := rfl

/-- The one window the relation speaks of: the output. -/
def fgt (w : Fin cfg0.W) : Bool := decide (w = 8)

/-- The relation on the windows, from a property of the output block. -/
def Rl (R : (t : Fin cfg0.N) → (S256x8.Idx → Elt F .f32) → Prop) (w : Fin cfg0.W) (t : Fin cfg0.N)
    (X : (cfg0.win w).block.Idx → Elt F (cfg0.win w).elt) : Prop :=
  ∀ h : w = 8, R t (by subst h; exact X)

variable (R : Dev nD → (t : Fin cfg0.N) → (S256x8.Idx → Elt F .f32) → Prop)

/-- The relational data. -/
def rdat (c : Dev nD) : Pipeline.RDat τ (Elt F) Unit ℕ (UR sig nD τ) ℕ cfg0 c := (dat m Inv c).toRRel fgt (Rl (R c))

/-- The body table's row at the point is the body as the schedule spells it. -/
theorem row (t : Fin cfg0.N) : defs₀ (F := F) .tc cfg0.body (cfg0.bodyArgs t (cfg0.slots t)) = bodyAt0 t := by
  unfold defs₀; rw [Defs.onTc_tc]

/-- The body at a point keeps the invariant, and leaves an output block with the stated property, when the step does. -/
theorem body_at (c : Dev nD) (t : Fin cfg0.N)
    (hI : ∀ f10 S, Inv t.val c S → Inv (t.val + 1) c (step m c t f10 S).2)
    (hR : ∀ f10 S, Inv t.val c S → R c t ((win0_8.stage (cfg0.slots t 8)).view.read (Elt F) (step m c t f10 S).1)) :
    iprop(Phi Inv c t.castSucc ∗ (dat m Inv c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
      ∗ ∃ X, owns (c : Thread nD τ) (win0_8.stage (cfg0.slots t 8)) fullShare X)
    ⊢ wp frame (wpE (defs₀ (F := F)) Variants.none c none) Set.univ (bodyAt0 t) fun _ =>
      iprop(Phi Inv c t.succ ∗ (dat m Inv c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
      ∗ ∃ X, ⌜R c t X⌝ ∗ owns (c : Thread nD τ) (win0_8.stage (cfg0.slots t 8)) fullShare X) := by
  rw [show (dat m Inv c).owesAt () t.succ = (dat m Inv c).owesAt () t.castSucc from rfl]
  rw [owns_unread c (hs0 t)]; rw [owns_unread c (hs1 t)]; rw [owns_unread c (hs2 t)]; rw [owns_unread c (hs3 t)]; rw [owns_unread c (hs4 t)]; rw [owns_unread c (hs5 t)]; rw [owns_unread c (hs6 t)]; rw [owns_unread c (hs7 t)]
  simp only [owns_unread c (hs8 t)]
  unfold Phi
  iintro ⟨⟨⟨%S, %hS, K0, K1, K2, K3, K4⟩, Hg⟩, HO, H0, H1, H2, H3, H4, H5, H6, H7, ⟨%X10, H8⟩⟩
  iapply (stepG_run c (grid0.coords t) (win0_0.stage (cfg0.slots t 0)) (hs0 t) (win0_1.stage (cfg0.slots t 1)) (hs1 t) (win0_2.stage (cfg0.slots t 2)) (hs2 t) (win0_3.stage (cfg0.slots t 3)) (hs3 t) (win0_4.stage (cfg0.slots t 4)) (hs4 t) (win0_5.stage (cfg0.slots t 5)) (hs5 t) (win0_6.stage (cfg0.slots t 6)) (hs6 t) (win0_7.stage (cfg0.slots t 7)) (hs7 t) (win0_8.stage (cfg0.slots t 8)) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) ((hs8 t).unread X10) S.1 S.2.1 S.2.2.1 S.2.2.2.1 S.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [K0]; · iexact K0
  isplitl [K1]; · iexact K1
  isplitl [K2]; · iexact K2
  isplitl [K3]; · iexact K3
  isplitl [K4]; · iexact K4
  iintro ⟨H0, H1, H2, H3, H4, H5, H6, H7, H8, K0, K1, K2, K3, K4⟩
  isplitl [K0 K1 K2 K3 K4 Hg]
  · isplitr [Hg]
    · iexists (step m c t ((hs8 t).unread X10) S).2
      isplitr
      · ipureintro; exact hI _ S hS
      isplitl [K0]; · iexact K0
      isplitl [K1]; · iexact K1
      isplitl [K2]; · iexact K2
      isplitl [K3]; · iexact K3
      iexact K4
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists ((win0_8.stage (cfg0.slots t 8)).view.read (Elt F) (step m c t ((hs8 t).unread X10) S).1)
  isplitr
  · ipureintro; exact hR _ S hS
  · rw [(hs8 t).unread_read]
    iexact H8

set_option maxHeartbeats 1600000 in
/-- The library's body obligation from the steps. -/
theorem obligation (c : Dev nD)
    (hI : ∀ t f10 S, Inv t.val c S → Inv (t.val + 1) c (step m c t f10 S).2)
    (hR : ∀ t f10 S, Inv t.val c S → R c t ((win0_8.stage (cfg0.slots t 8)).view.read (Elt F) (step m c t f10 S).1)) :
    (rdat m Inv R c).BodyObligation (defs₀ (F := F)) Variants.none () Set.univ := by
  refine Pipeline.BodyObligationRel.toRRel (dat m Inv c) fun t => ?_
  rw [bigSep_W0, bigSep_W0, row]
  have f0 : fgt 0 = false := rfl; have f1 : fgt 1 = false := rfl; have f2 : fgt 2 = false := rfl; have f3 : fgt 3 = false := rfl; have f4 : fgt 4 = false := rfl; have f5 : fgt 5 = false := rfl; have f6 : fgt 6 = false := rfl; have f7 : fgt 7 = false := rfl; have f8 : fgt 8 = true := rfl
  have i0 : cfg0.idle 0 (cfg0.grid.coords t) = false := rfl; have l0 : cfg0.loose 0 = false := rfl; have i1 : cfg0.idle 1 (cfg0.grid.coords t) = false := rfl; have l1 : cfg0.loose 1 = false := rfl; have i2 : cfg0.idle 2 (cfg0.grid.coords t) = false := rfl; have l2 : cfg0.loose 2 = false := rfl; have i3 : cfg0.idle 3 (cfg0.grid.coords t) = false := rfl; have l3 : cfg0.loose 3 = false := rfl; have i4 : cfg0.idle 4 (cfg0.grid.coords t) = false := rfl; have l4 : cfg0.loose 4 = false := rfl; have i5 : cfg0.idle 5 (cfg0.grid.coords t) = false := rfl; have l5 : cfg0.loose 5 = false := rfl; have i6 : cfg0.idle 6 (cfg0.grid.coords t) = false := rfl; have l6 : cfg0.loose 6 = false := rfl; have i7 : cfg0.idle 7 (cfg0.grid.coords t) = false := rfl; have l7 : cfg0.loose 7 = false := rfl
  simp only [f0, f1, f2, f3, f4, f5, f6, f7, f8, i0, l0, i1, l1, i2, l2, i3, l3, i4, l4, i5, l5, i6, l6, i7, l7]
  rw [dat_after0, dat_after1, dat_after2, dat_after3, dat_after4, dat_after5, dat_after6, dat_after7, dat_Φ]
  refine triple_restated (body_at m Inv R c t (hI t) (hR t)) rfl ?_ fun _ => ?_
  · iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%Y, -, H8⟩⟩
    rw [before0_0_of m (dat m Inv c) rfl (fun _ => rfl)]; rw [before0_1_of m (dat m Inv c) rfl (fun _ => rfl)]; rw [before0_2_of m (dat m Inv c) rfl (fun _ => rfl)]; rw [before0_3_of m (dat m Inv c) rfl (fun _ => rfl)]; rw [before0_4_of m (dat m Inv c) rfl (fun _ => rfl)]; rw [before0_5_of m (dat m Inv c) rfl (fun _ => rfl)]; rw [before0_6_of m (dat m Inv c) rfl (fun _ => rfl)]; rw [before0_7_of m (dat m Inv c) rfl (fun _ => rfl)]
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists Y
    iexact H8
  · iintro ⟨HP, HO, H0, H1, H2, H3, H4, H5, H6, H7, ⟨%Y, %hY, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists Y
    isplitr
    · ipureintro; exact fun _ => hY
    · iexact H8

end Data

end Cert.KernelIdeal.Hand

end
-- ==== Proof.ILaunch.lean ====
module

public import proofs.«01_k».proof.Proof.Gen.KernelIdeal.Frame
public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that the host lines after the pipeline do not write, and that is no array of it, ends as the pipeline found it. -/
theorem tail_keep (c : Dev nD) (A : (w : Fin cfg0.W) → Buf (Elt F) ((cfg0.win w).arr.view.loc (c.tc : Thread nD τ))) (b : Ref sig .tc)
    (h8 : b ≠ main_v8) (h9 : b ≠ main_v9) (h10 : b ≠ main_v10) (hw : ∀ w, Pipeline.arrRef spec0 w ≠ b) :
    StableHlo.after [hostOps1].flatten (Pipeline.withArrays spec0 c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h8, StableHlo.devRef_ne_of_ne h9, StableHlo.devRef_ne_of_ne h10⟩)),
    Pipeline.withArrays_of_ne _ c (V0 m c) _ b hw]

section Data

variable (Inv : ℕ → (c : Dev nD) → Scr F c → Prop)
variable (R : Dev nD → (t : Fin cfg0.N) → (S256x8.Idx → Elt F .f32) → Prop)

/-- The launch: the program's run leaves what the relational data allow, when the steps keep the invariant. -/
theorem launch (h0 : ∀ c S, Inv 0 c S)
    (hI : ∀ c t f10 S, Inv t.val c S → Inv (t.val + 1) c (step m c t f10 S).2)
    (hR : ∀ c t f10 S, Inv t.val c S → R c t ((win0_8.stage (cfg0.slots t 8)).view.read (Elt F) (step m c t f10 S).1)) :
    θ_run defs (onTc (τ := τ) (main (F := F))) (s₀ m ρ)
      (fun r => Around.ReadPost cfg0 (rdat m Inv R) (V0 m) [hostOps1].flatten r ∧ r.2.sem = fun _ => 0) :=
  Around.run_read cfgs 0 launch0 defs₀ Variants.none (rdat m Inv R) m ρ main
    (fun c => obligation m Inv R c (hI c) (hR c))
    (fun c w => by
      show (dat m Inv c).share w = fullShare
      unfold Dat.share dat
      split <;> rfl)
    (fun _ _ => rfl) (V0 m) [hostOps1] sfx_sub sfx_fresh sfx_keeps (hmain m Variants.none) (fun _ _ => rfl)
    (fun c => by
      show Pipeline.ΦA spec0 c ⊢ Phi Inv c 0
      unfold Pipeline.ΦA Phi
      rw [scopedRest0_eq]
      iintro ⟨⟨⟨%f0, K0⟩, ⟨%f1, K1⟩, ⟨%f2, K2⟩, ⟨%f3, K3⟩, ⟨%f4, K4⟩⟩, Hg⟩
      isplitr [Hg]
      · iexists ((f0, f1, f2, f3, f4) : Scr F c)
        isplitr
        · ipureintro; exact h0 c _
        isplitl [K0]; · iexact K0
        isplitl [K1]; · iexact K1
        isplitl [K2]; · iexact K2
        isplitl [K3]; · iexact K3
        iexact K4
      · iexact Hg)
    (fun c => by
      show Phi Inv c (Fin.last cfg0.N) ⊢ Pipeline.ΦA spec0 c
      unfold Pipeline.ΦA Phi
      rw [scopedRest0_eq]
      iintro ⟨⟨%S, -, K0, K1, K2, K3, K4⟩, Hg⟩
      isplitr [Hg]
      · isplitl [K0]; · iexists S.1; iexact K0
        isplitl [K1]; · iexists S.2.1; iexact K1
        isplitl [K2]; · iexists S.2.2.1; iexact K2
        isplitl [K3]; · iexists S.2.2.2.1; iexact K3
        iexists S.2.2.2.2; iexact K4
      · iexact Hg)

/-- What the launch leaves includes every argument unchanged. -/
theorem args_of (r : PUnit × MemSt nD τ sig (Elt F)) (h : Around.ReadPost cfg0 (rdat m Inv R) (V0 m) [hostOps1].flatten r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  obtain ⟨hA, A, -, hr⟩ := h c
  have k : ∀ b : Ref sig .tc, b ∈ Pipeline.restRefs sig spec0 → b ≠ main_v8 → b ≠ main_v9 → b ≠ main_v10 →
      (∀ w, Pipeline.arrRef spec0 w ≠ b) → r.2.mem ((c.tc : Thread nD τ).loc b) = V m c b :=
    fun b hb h8 h9 h10 hw => (hr b hb).trans (tail_keep m c A b h8 h9 h10 hw)
  have a7 : r.2.mem ((c.tc : Thread nD τ).loc main_arg7) = V m c main_arg7 := by
    have := hA 7
    rw [Pipeline.RDat.ArrAt_in (rdat m Inv R c) 7 rfl] at this
    exact this
  exact ⟨(k main_arg0 (Pipeline.mem_restRefs_of main_arg0 (by decide) (by decide)) (by decide) (by decide) (by decide) (by decide)).trans (V_main_arg0 m c), (k main_arg1 (Pipeline.mem_restRefs_of main_arg1 (by decide) (by decide)) (by decide) (by decide) (by decide) (by decide)).trans (V_main_arg1 m c), (k main_arg2 (Pipeline.mem_restRefs_of main_arg2 (by decide) (by decide)) (by decide) (by decide) (by decide) (by decide)).trans (V_main_arg2 m c), (k main_arg3 (Pipeline.mem_restRefs_of main_arg3 (by decide) (by decide)) (by decide) (by decide) (by decide) (by decide)).trans (V_main_arg3 m c), (k main_arg4 (Pipeline.mem_restRefs_of main_arg4 (by decide) (by decide)) (by decide) (by decide) (by decide) (by decide)).trans (V_main_arg4 m c), (k main_arg5 (Pipeline.mem_restRefs_of main_arg5 (by decide) (by decide)) (by decide) (by decide) (by decide) (by decide)).trans (V_main_arg5 m c), (k main_arg6 (Pipeline.mem_restRefs_of main_arg6 (by decide) (by decide)) (by decide) (by decide) (by decide) (by decide)).trans (V_main_arg6 m c),
    a7.trans (V_main_arg7 m c)⟩

end Data

/-- The program runs to the end from any state, leaves its arguments as they were and no semaphore counting. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => args_of m (fun _ _ _ => True) (fun _ _ _ => True) r h.1 c, h.2⟩)
    (launch m ρ (fun _ _ _ => True) (fun _ _ _ => True) (fun _ _ => trivial) (fun _ _ _ _ _ => trivial) (fun _ _ _ _ _ => trivial))

end Cert.KernelIdeal.Hand

end
-- ==== Proof.Order.lean ====
module

public import Idealize.ShloMosaic.Lib.Pointwise

@[expose] public section

/-!
The mathematics of "the five smallest": a sequence of five values is described by how many values of a family lie at or
below each threshold. Merging two such descriptions adds the counts, so a network of minima and maxima is checked one
threshold at a time.
-/

noncomputable section

namespace Cert.Smallest

/-- The first values of an ascending sequence, seen at the threshold `θ`: value number `t` is at or below `θ` exactly when
`t` is less than the count `n`. -/
def At {k : ℕ} (s : Fin k → EReal) (θ : EReal) (n : ℕ) : Prop := ∀ t : Fin k, s t ≤ θ ↔ t.val < n

/-- Two sequences that agree with the same counts at every finite threshold are equal. -/
theorem At.unique {k : ℕ} {s s' : Fin k → EReal} {C : EReal → ℕ} (h : ∀ θ < ⊤, At s θ (C θ)) (h' : ∀ θ < ⊤, At s' θ (C θ)) :
    s = s' := by
  funext t
  have key : ∀ θ, s t ≤ θ ↔ s' t ≤ θ := by
    intro θ
    rcases lt_or_eq_of_le (le_top : θ ≤ ⊤) with hθ | rfl
    · rw [h θ hθ t, h' θ hθ t]
    · simp
  exact le_antisymm ((key _).2 le_rfl) ((key _).1 le_rfl)

section Net

variable {α : Type} (mn mx : α → α → α)

/-- The least of four values, by exchanges. -/
def sort4_0 (a b c d : α) : α := mn (mn a b) (mn c d)
/-- The second of four values. -/
def sort4_1 (a b c d : α) : α := mn (mn (mx a b) (mx c d)) (mx (mn a b) (mn c d))
/-- The third of four values. -/
def sort4_2 (a b c d : α) : α := mx (mn (mx a b) (mx c d)) (mx (mn a b) (mn c d))
/-- The greatest of four values. -/
def sort4_3 (a b c d : α) : α := mx (mx a b) (mx c d)

/-- The five smallest of two sorted groups of four, by odd and even merging: the least. -/
def merge4_0 (a0 a1 a2 a3 b0 b1 b2 b3 : α) : α := mn a0 b0
/-- The second of two sorted groups of four. -/
def merge4_1 (a0 a1 a2 a3 b0 b1 b2 b3 : α) : α := mn (mn a1 b1) (mn (mn a2 b2) (mx a0 b0))
/-- The third of two sorted groups of four. -/
def merge4_2 (a0 a1 a2 a3 b0 b1 b2 b3 : α) : α := mx (mn a1 b1) (mn (mn a2 b2) (mx a0 b0))
/-- The fourth of two sorted groups of four. -/
def merge4_3 (a0 a1 a2 a3 b0 b1 b2 b3 : α) : α := mn (mn (mn a3 b3) (mx a1 b1)) (mx (mn a2 b2) (mx a0 b0))
/-- The fifth of two sorted groups of four. -/
def merge4_4 (a0 a1 a2 a3 b0 b1 b2 b3 : α) : α := mx (mn (mn a3 b3) (mx a1 b1)) (mx (mn a2 b2) (mx a0 b0))

/-- The five smallest of two sorted groups of five, by odd and even merging: the least. -/
def merge5_0 (a0 a1 a2 a3 a4 b0 b1 b2 b3 b4 : α) : α := mn a0 b0
/-- The second of two sorted groups of five. -/
def merge5_1 (a0 a1 a2 a3 a4 b0 b1 b2 b3 b4 : α) : α := mn (mn a1 b1) (mn (mn a2 b2) (mn (mn a4 b4) (mx a0 b0)))
/-- The third of two sorted groups of five. -/
def merge5_2 (a0 a1 a2 a3 a4 b0 b1 b2 b3 b4 : α) : α := mx (mn a1 b1) (mn (mn a2 b2) (mn (mn a4 b4) (mx a0 b0)))
/-- The fourth of two sorted groups of five. -/
def merge5_3 (a0 a1 a2 a3 a4 b0 b1 b2 b3 b4 : α) : α :=
  mn (mn (mn a3 b3) (mx a1 b1)) (mx (mn a2 b2) (mn (mn a4 b4) (mx a0 b0)))
/-- The fifth of two sorted groups of five. -/
def merge5_4 (a0 a1 a2 a3 a4 b0 b1 b2 b3 b4 : α) : α :=
  mx (mn (mn a3 b3) (mx a1 b1)) (mx (mn a2 b2) (mn (mn a4 b4) (mx a0 b0)))

/-- A merge of two groups of four, of eight values sorted by fours. -/
def eight (m : α → α → α → α → α → α → α → α → α) (a b c d e f g h : α) : α :=
  m (sort4_0 mn a b c d) (sort4_1 mn mx a b c d) (sort4_2 mn mx a b c d) (sort4_3 mx a b c d)
    (sort4_0 mn e f g h) (sort4_1 mn mx e f g h) (sort4_2 mn mx e f g h) (sort4_3 mx e f g h)

/-- A merge of two groups of five, the five smallest of eight values each. -/
def sixteen (m : α → α → α → α → α → α → α → α → α → α → α) (a b c d e f g h a' b' c' d' e' f' g' h' : α) : α :=
  m (eight mn mx (merge4_0 mn) a b c d e f g h) (eight mn mx (merge4_1 mn mx) a b c d e f g h)
    (eight mn mx (merge4_2 mn mx) a b c d e f g h) (eight mn mx (merge4_3 mn mx) a b c d e f g h)
    (eight mn mx (merge4_4 mn mx) a b c d e f g h)
    (eight mn mx (merge4_0 mn) a' b' c' d' e' f' g' h') (eight mn mx (merge4_1 mn mx) a' b' c' d' e' f' g' h')
    (eight mn mx (merge4_2 mn mx) a' b' c' d' e' f' g' h') (eight mn mx (merge4_3 mn mx) a' b' c' d' e' f' g' h')
    (eight mn mx (merge4_4 mn mx) a' b' c' d' e' f' g' h')

/-- One of the five smallest of the lower sixteen values. -/
def low (m : α → α → α → α → α → α → α → α → α → α → α) (x : Fin 32 → α) : α :=
  sixteen mn mx m (x 0) (x 1) (x 2) (x 3) (x 4) (x 5) (x 6) (x 7) (x 8) (x 9) (x 10) (x 11) (x 12) (x 13) (x 14) (x 15)
/-- One of the five smallest of the upper sixteen values. -/
def high (m : α → α → α → α → α → α → α → α → α → α → α) (x : Fin 32 → α) : α :=
  sixteen mn mx m (x 16) (x 17) (x 18) (x 19) (x 20) (x 21) (x 22) (x 23) (x 24) (x 25) (x 26) (x 27) (x 28) (x 29) (x 30) (x 31)

/-- A merge of two groups of five, the five smallest of the two halves of thirty-two values. -/
def best (m : α → α → α → α → α → α → α → α → α → α → α) (x : Fin 32 → α) : α :=
  m (low mn mx (merge5_0 mn) x) (low mn mx (merge5_1 mn mx) x) (low mn mx (merge5_2 mn mx) x)
    (low mn mx (merge5_3 mn mx) x) (low mn mx (merge5_4 mn mx) x)
    (high mn mx (merge5_0 mn) x) (high mn mx (merge5_1 mn mx) x) (high mn mx (merge5_2 mn mx) x)
    (high mn mx (merge5_3 mn mx) x) (high mn mx (merge5_4 mn mx) x)

/-- A merge of five kept values with the five smallest of thirty-two new ones. -/
def add32 (m : α → α → α → α → α → α → α → α → α → α → α) (s0 s1 s2 s3 s4 : α) (x : Fin 32 → α) : α :=
  m s0 s1 s2 s3 s4 (best mn mx (merge5_0 mn) x) (best mn mx (merge5_1 mn mx) x) (best mn mx (merge5_2 mn mx) x)
    (best mn mx (merge5_3 mn mx) x) (best mn mx (merge5_4 mn mx) x)

/-- The five kept values after thirty-two new ones. -/
def kept5 (s : Fin 5 → α) (x : Fin 32 → α) : Fin 5 → α :=
  ![add32 mn mx (merge5_0 mn) (s 0) (s 1) (s 2) (s 3) (s 4) x, add32 mn mx (merge5_1 mn mx) (s 0) (s 1) (s 2) (s 3) (s 4) x,
    add32 mn mx (merge5_2 mn mx) (s 0) (s 1) (s 2) (s 3) (s 4) x, add32 mn mx (merge5_3 mn mx) (s 0) (s 1) (s 2) (s 3) (s 4) x,
    add32 mn mx (merge5_4 mn mx) (s 0) (s 1) (s 2) (s 3) (s 4) x]

/-- Four values sorted. -/
def sort4 (x : Fin 4 → α) : Fin 4 → α :=
  ![sort4_0 mn (x 0) (x 1) (x 2) (x 3), sort4_1 mn mx (x 0) (x 1) (x 2) (x 3), sort4_2 mn mx (x 0) (x 1) (x 2) (x 3),
    sort4_3 mx (x 0) (x 1) (x 2) (x 3)]

/-- The five smallest of two sorted groups of four. -/
def merge4 (a b : Fin 4 → α) : Fin 5 → α :=
  ![merge4_0 mn (a 0) (a 1) (a 2) (a 3) (b 0) (b 1) (b 2) (b 3), merge4_1 mn mx (a 0) (a 1) (a 2) (a 3) (b 0) (b 1) (b 2) (b 3),
    merge4_2 mn mx (a 0) (a 1) (a 2) (a 3) (b 0) (b 1) (b 2) (b 3), merge4_3 mn mx (a 0) (a 1) (a 2) (a 3) (b 0) (b 1) (b 2) (b 3),
    merge4_4 mn mx (a 0) (a 1) (a 2) (a 3) (b 0) (b 1) (b 2) (b 3)]

/-- The five smallest of two sorted groups of five. -/
def merge5 (a b : Fin 5 → α) : Fin 5 → α :=
  ![merge5_0 mn (a 0) (a 1) (a 2) (a 3) (a 4) (b 0) (b 1) (b 2) (b 3) (b 4),
    merge5_1 mn mx (a 0) (a 1) (a 2) (a 3) (a 4) (b 0) (b 1) (b 2) (b 3) (b 4),
    merge5_2 mn mx (a 0) (a 1) (a 2) (a 3) (a 4) (b 0) (b 1) (b 2) (b 3) (b 4),
    merge5_3 mn mx (a 0) (a 1) (a 2) (a 3) (a 4) (b 0) (b 1) (b 2) (b 3) (b 4),
    merge5_4 mn mx (a 0) (a 1) (a 2) (a 3) (a 4) (b 0) (b 1) (b 2) (b 3) (b 4)]

/-- The five smallest of eight values. -/
def eightV (a b c d e f g h : α) : Fin 5 → α :=
  ![eight mn mx (merge4_0 mn) a b c d e f g h, eight mn mx (merge4_1 mn mx) a b c d e f g h,
    eight mn mx (merge4_2 mn mx) a b c d e f g h, eight mn mx (merge4_3 mn mx) a b c d e f g h,
    eight mn mx (merge4_4 mn mx) a b c d e f g h]
/-- The five smallest of the lower half. -/
def lowV (x : Fin 32 → α) : Fin 5 → α :=
  ![low mn mx (merge5_0 mn) x, low mn mx (merge5_1 mn mx) x, low mn mx (merge5_2 mn mx) x, low mn mx (merge5_3 mn mx) x,
    low mn mx (merge5_4 mn mx) x]
/-- The five smallest of the upper half. -/
def highV (x : Fin 32 → α) : Fin 5 → α :=
  ![high mn mx (merge5_0 mn) x, high mn mx (merge5_1 mn mx) x, high mn mx (merge5_2 mn mx) x, high mn mx (merge5_3 mn mx) x,
    high mn mx (merge5_4 mn mx) x]
/-- The five smallest of thirty-two values. -/
def bestV (x : Fin 32 → α) : Fin 5 → α :=
  ![best mn mx (merge5_0 mn) x, best mn mx (merge5_1 mn mx) x, best mn mx (merge5_2 mn mx) x, best mn mx (merge5_3 mn mx) x,
    best mn mx (merge5_4 mn mx) x]

/-- The kernel's sort of eight, as two sorts of four merged. -/
theorem eightV_eq (a b c d e f g h : α) :
    eightV mn mx a b c d e f g h = merge4 mn mx (sort4 mn mx ![a, b, c, d]) (sort4 mn mx ![e, f, g, h]) := rfl
/-- The five least of the lower sixteen, as a merge of two halves. -/
theorem lowV_eq (x : Fin 32 → α) : lowV mn mx x = merge5 mn mx
    (eightV mn mx (x 0) (x 1) (x 2) (x 3) (x 4) (x 5) (x 6) (x 7))
    (eightV mn mx (x 8) (x 9) (x 10) (x 11) (x 12) (x 13) (x 14) (x 15)) := rfl
/-- The five least of the upper sixteen, as a merge of two halves. -/
theorem highV_eq (x : Fin 32 → α) : highV mn mx x = merge5 mn mx
    (eightV mn mx (x 16) (x 17) (x 18) (x 19) (x 20) (x 21) (x 22) (x 23))
    (eightV mn mx (x 24) (x 25) (x 26) (x 27) (x 28) (x 29) (x 30) (x 31)) := rfl
/-- The five least of thirty-two, as a merge of two halves. -/
theorem bestV_eq (x : Fin 32 → α) : bestV mn mx x = merge5 mn mx (lowV mn mx x) (highV mn mx x) := rfl
/-- The five kept, as a merge of the old five with the five least of the new. -/
theorem kept5_eq (s : Fin 5 → α) (x : Fin 32 → α) : kept5 mn mx s x = merge5 mn mx s (bestV mn mx x) := rfl

end Net

section NetAt

variable {ι : Type} {mn mx : (ι → EReal) → (ι → EReal) → (ι → EReal)} {j : ι} {θ : EReal}

/-- A sorted group of four counts the values at or below the threshold. -/
theorem sort4_at (hmn : ∀ a b, mn a b j = min (a j) (b j)) (hmx : ∀ a b, mx a b j = max (a j) (b j)) (x : Fin 4 → ι → EReal) :
    At (fun t => sort4 mn mx x t j) θ (∑ i, if x i j ≤ θ then 1 else 0) := by
  intro t
  fin_cases t <;>
    simp only [sort4, sort4_0, sort4_1, sort4_2, sort4_3, Fin.sum_univ_four, hmn, hmx, Fin.zero_eta, Fin.mk_one, Fin.reduceFinMk, Matrix.cons_val_zero,
      Matrix.cons_val_one, Matrix.cons_val, min_le_iff, max_le_iff] <;>
    by_cases h0 : x 0 j ≤ θ <;> by_cases h1 : x 1 j ≤ θ <;> by_cases h2 : x 2 j ≤ θ <;> by_cases h3 : x 3 j ≤ θ <;>
    simp [h0, h1, h2, h3]

/-- Merging two sorted groups of four adds the counts. -/
theorem merge4_at (hmn : ∀ a b, mn a b j = min (a j) (b j)) (hmx : ∀ a b, mx a b j = max (a j) (b j)) (a b : Fin 4 → ι → EReal)
    {n m : ℕ} (hn : n ≤ 4) (hm : m ≤ 4) (ha : At (fun t => a t j) θ n) (hb : At (fun t => b t j) θ m) :
    At (fun t => merge4 mn mx a b t j) θ (n + m) := by
  have a0 := ha 0; have a1 := ha 1; have a2 := ha 2; have a3 := ha 3
  have b0 := hb 0; have b1 := hb 1; have b2 := hb 2; have b3 := hb 3
  simp only [Fin.val_zero, Fin.val_one, Fin.val_two, Fin.isValue] at a0 a1 a2 a3 b0 b1 b2 b3
  have e3 : ((3 : Fin 4) : ℕ) = 3 := rfl
  rw [e3] at a3 b3
  intro t
  fin_cases t <;>
    simp only [merge4, merge4_0, merge4_1, merge4_2, merge4_3, merge4_4, hmn, hmx, Fin.zero_eta, Fin.mk_one, Fin.reduceFinMk, Matrix.cons_val_zero,
      Matrix.cons_val_one, Matrix.cons_val, min_le_iff, max_le_iff, a0, a1, a2, a3, b0, b1, b2, b3] <;> omega

/-- Merging two sorted groups of five adds the counts. -/
theorem merge5_at (hmn : ∀ a b, mn a b j = min (a j) (b j)) (hmx : ∀ a b, mx a b j = max (a j) (b j)) (a b : Fin 5 → ι → EReal)
    {n m : ℕ} (ha : At (fun t => a t j) θ n) (hb : At (fun t => b t j) θ m) :
    At (fun t => merge5 mn mx a b t j) θ (n + m) := by
  have a0 := ha 0; have a1 := ha 1; have a2 := ha 2; have a3 := ha 3; have a4 := ha 4
  have b0 := hb 0; have b1 := hb 1; have b2 := hb 2; have b3 := hb 3; have b4 := hb 4
  simp only [Fin.val_zero, Fin.val_one, Fin.val_two, Fin.isValue] at a0 a1 a2 a3 a4 b0 b1 b2 b3 b4
  have e3 : ((3 : Fin 5) : ℕ) = 3 := rfl
  have e4 : ((4 : Fin 5) : ℕ) = 4 := rfl
  rw [e3] at a3 b3
  rw [e4] at a4 b4
  intro t
  fin_cases t <;>
    simp only [merge5, merge5_0, merge5_1, merge5_2, merge5_3, merge5_4, hmn, hmx, Fin.zero_eta, Fin.mk_one, Fin.reduceFinMk, Matrix.cons_val_zero,
      Matrix.cons_val_one, Matrix.cons_val, min_le_iff, max_le_iff, a0, a1, a2, a3, a4, b0, b1, b2, b3, b4] <;> omega

/-- The five smallest of eight values count those at or below the threshold. -/
theorem eightV_at (hmn : ∀ a b, mn a b j = min (a j) (b j)) (hmx : ∀ a b, mx a b j = max (a j) (b j)) (a b c d e f g h : ι → EReal) :
    At (fun t => eightV mn mx a b c d e f g h t j) θ
      ((∑ i : Fin 4, if ![a, b, c, d] i j ≤ θ then 1 else 0) + ∑ i : Fin 4, if ![e, f, g, h] i j ≤ θ then 1 else 0) := by
  have four : ∀ y : Fin 4 → ι → EReal, (∑ i, if y i j ≤ θ then 1 else 0 : ℕ) ≤ 4 := fun y =>
    (Finset.sum_le_card_nsmul _ _ 1 fun i _ => by split_ifs <;> simp).trans (by simp)
  rw [eightV_eq]
  exact merge4_at hmn hmx _ _ (four _) (four _) (sort4_at hmn hmx _) (sort4_at hmn hmx _)

/-- Merging thirty-two new values into five kept ones adds the count of the new ones. -/
theorem kept5_at (hmn : ∀ a b, mn a b j = min (a j) (b j)) (hmx : ∀ a b, mx a b j = max (a j) (b j)) (s : Fin 5 → ι → EReal)
    (x : Fin 32 → ι → EReal) {n : ℕ} (hs : At (fun t => s t j) θ n) :
    At (fun t => kept5 mn mx s x t j) θ (n + ∑ i, if x i j ≤ θ then 1 else 0) := by
  have e : ∀ f : Fin 32 → ℕ, ∑ i, f i = ∑ b : Fin 8, ∑ i : Fin 4, f ((finProdFinEquiv (m := 8) (n := 4)) (b, i)) := fun f => by
    rw [← Fintype.sum_prod_type (f := fun p : Fin 8 × Fin 4 => f ((finProdFinEquiv (m := 8) (n := 4)) p))]
    exact (Equiv.sum_comp (finProdFinEquiv (m := 8) (n := 4)) f).symm
  rw [e, kept5_eq, bestV_eq, lowV_eq, highV_eq]
  refine merge5_at hmn hmx s _ hs ?_
  have h := merge5_at (θ := θ) hmn hmx _ _
    (merge5_at hmn hmx _ _ (eightV_at hmn hmx (x 0) (x 1) (x 2) (x 3) (x 4) (x 5) (x 6) (x 7))
      (eightV_at hmn hmx (x 8) (x 9) (x 10) (x 11) (x 12) (x 13) (x 14) (x 15)))
    (merge5_at hmn hmx _ _ (eightV_at hmn hmx (x 16) (x 17) (x 18) (x 19) (x 20) (x 21) (x 22) (x 23))
      (eightV_at hmn hmx (x 24) (x 25) (x 26) (x 27) (x 28) (x 29) (x 30) (x 31)))
  refine Eq.mp (congrArg (At _ θ) ?_) h
  simp only [Fin.sum_univ_four, Fin.sum_univ_eight, Matrix.cons_val_zero, Matrix.cons_val_one, Matrix.cons_val]
  simp only [Nat.add_assoc]
  rfl

end NetAt

/-! ### The five rounds that add up the five smallest -/

/-- One round: the least value above the last one, how often it occurs, and its share of the five. -/
def round {n : ℕ} (cand : Fin n → EReal) (p : EReal × EReal × EReal) : EReal × EReal × EReal :=
  let m := Finset.univ.fold min ⊤ fun i => if p.1 < cand i then cand i else ⊤
  let cnt := ∑ i, if cand i = m then (1 : EReal) else 0
  let take := min cnt (max 0 (5 - p.2.1))
  (m, p.2.1 + cnt, p.2.2 + if 0 < take then m * take else 0)

/-- What holds after some rounds: either five values are summed, or all values up to the last minimum are. -/
def Good {n : ℕ} (cand : Fin n → EReal) (S : Fin 5 → ℝ) (k : ℕ) (p : EReal × EReal × EReal) : Prop :=
  ∃ c : ℕ, p.2.1 = ((c : ℝ) : EReal) ∧
    ((5 ≤ c ∧ p.2.2 = ((∑ t, S t : ℝ) : EReal)) ∨
      (k ≤ c ∧ c < 5 ∧ p.1 < ⊤ ∧ c = (Finset.univ.filter fun i => cand i ≤ p.1).card
        ∧ p.2.2 = ((∑ t ∈ Finset.univ.filter (fun t : Fin 5 => t.val < c), S t : ℝ) : EReal)))

/-- A sum of ones and zeros over the extended reals is the number of ones. -/
theorem count_eq {n : ℕ} (q : Fin n → Prop) [DecidablePred q] :
    (∑ i, if q i then (1 : EReal) else 0) = (((Finset.univ.filter q).card : ℝ) : EReal) := by
  rw [Finset.sum_boole]; rfl

/-- How many copies a round takes, as a natural number. -/
theorem take_eq (c k : ℕ) : min (((k : ℝ)) : EReal) (max 0 (5 - ((c : ℝ) : EReal))) = (((min k (5 - c) : ℕ) : ℝ) : EReal) := by
  have h5 : (5 : EReal) = ((5 : ℝ) : EReal) := rfl
  have h0 : (0 : EReal) = ((0 : ℝ) : EReal) := rfl
  rw [h5, h0, ← EReal.coe_sub, ← EReal.coe_strictMono.monotone.map_max, ← EReal.coe_strictMono.monotone.map_min]
  congr 1
  rcases le_total c 5 with h | h
  · rw [max_eq_right (by have : (c : ℝ) ≤ 5 := by exact_mod_cast h
                         linarith)]
    push_cast [h]; rfl
  · rw [max_eq_left (by have : (5 : ℝ) ≤ c := by exact_mod_cast h
                        linarith)]
    rw [Nat.sub_eq_zero_of_le h]; simp

/-- One round keeps the running count and the running total right. -/
theorem round_good {n : ℕ} {cand : Fin n → EReal} {S : Fin 5 → ℝ}
    (hS : ∀ θ < ⊤, At (fun t => ((S t : ℝ) : EReal)) θ (Finset.univ.filter fun i => cand i ≤ θ).card) (k : ℕ)
    (p : EReal × EReal × EReal) (h : Good cand S k p) : Good cand S (k + 1) (round cand p) := by
  obtain ⟨mp, cum, tot⟩ := p
  obtain ⟨c, hc, h⟩ := h
  simp only at hc h
  subst hc
  generalize hm : (Finset.univ.fold min ⊤ fun i => if mp < cand i then cand i else ⊤) = m
  have hr : round cand (mp, ((c : ℝ) : EReal), tot) = (m, (((c + (Finset.univ.filter fun i => cand i = m).card : ℕ) : ℝ) : EReal),
      tot + if 0 < (((min (Finset.univ.filter fun i => cand i = m).card (5 - c) : ℕ) : ℝ) : EReal)
        then m * (((min (Finset.univ.filter fun i => cand i = m).card (5 - c) : ℕ) : ℝ) : EReal) else 0) := by
    simp only [round, hm, count_eq, take_eq]
    push_cast
    rfl
  rw [hr]
  generalize hcnt : (Finset.univ.filter fun i => cand i = m).card = cnt
  rcases h with ⟨h5, rfl⟩ | ⟨hk, h5, hmp, hcc, rfl⟩
  · refine ⟨c + cnt, rfl, Or.inl ⟨by omega, ?_⟩⟩
    simp [Nat.sub_eq_zero_of_le h5]
  · have hinf : m = Finset.univ.inf (fun i => if mp < cand i then cand i else ⊤) := hm.symm
    have hle : ∀ i, mp < cand i → m ≤ cand i := fun i hi => by
      rw [hinf]
      exact (Finset.inf_le (Finset.mem_univ i)).trans (by simp [hi])
    have hSc : ∀ t : Fin 5, c ≤ t.val → ∃ i, mp < cand i ∧ cand i ≤ ((S t : ℝ) : EReal) := by
      intro t ht
      by_contra hno
      push Not at hno
      have h1 := (hS ((S t : ℝ) : EReal) (EReal.coe_lt_top _) t).1 le_rfl
      have h2 : (Finset.univ.filter fun i => cand i ≤ ((S t : ℝ) : EReal)).card ≤ c := by
        rw [hcc]
        refine Finset.card_le_card fun i hi => ?_
        simp only [Finset.mem_filter, Finset.mem_univ, true_and] at hi ⊢
        by_contra hgt
        exact absurd hi (not_le.2 (hno i (not_le.1 hgt)))
      omega
    obtain ⟨i0, hi0, hi0'⟩ := hSc ⟨c, h5⟩ le_rfl
    have hmt : m < ⊤ := lt_of_le_of_lt ((hle i0 hi0).trans hi0') (EReal.coe_lt_top _)
    obtain ⟨i1, -, hi1⟩ := Finset.exists_mem_eq_inf Finset.univ ⟨i0, Finset.mem_univ i0⟩
      (fun i => if mp < cand i then cand i else ⊤)
    rw [← hinf] at hi1
    have hi1c : mp < cand i1 ∧ cand i1 = m := by
      by_cases hlt : mp < cand i1
      · rw [if_pos hlt] at hi1; exact ⟨hlt, hi1.symm⟩
      · rw [if_neg hlt] at hi1; exact absurd hi1 hmt.ne
    have hmpm : mp < m := hi1c.2 ▸ hi1c.1
    have hcm : (Finset.univ.filter fun i => cand i ≤ m).card = c + cnt := by
      rw [hcc, ← hcnt, ← Finset.card_union_of_disjoint]
      · congr 1
        ext i
        simp only [Finset.mem_filter, Finset.mem_univ, true_and, Finset.mem_union]
        constructor
        · intro h
          by_cases hi : cand i ≤ mp
          · exact Or.inl hi
          · exact Or.inr (le_antisymm h (hle i (not_le.1 hi)))
        · rintro (h | h)
          · exact h.trans hmpm.le
          · exact h.le
      · rw [Finset.disjoint_left]
        intro i h1 h2
        simp only [Finset.mem_filter, Finset.mem_univ, true_and] at h1 h2
        rw [h2] at h1
        exact absurd h1 (not_le.2 hmpm)
    have hcpos : 0 < cnt := by
      rw [← hcnt]
      exact Finset.card_pos.2 ⟨i1, by simp [hi1c.2]⟩
    have hSm : ∀ t : Fin 5, c ≤ t.val → t.val < c + cnt → ((S t : ℝ) : EReal) = m := by
      intro t h1 h2
      refine le_antisymm ((hS m hmt t).2 (by rw [hcm]; exact h2)) ?_
      obtain ⟨i, hi, hi'⟩ := hSc t h1
      exact (hle i hi).trans hi'
    obtain ⟨μ, rfl⟩ : ∃ μ : ℝ, m = (μ : EReal) := ⟨S ⟨c, h5⟩, (hSm ⟨c, h5⟩ le_rfl (by simp; omega)).symm⟩
    have htake : (0 : EReal) < (((min cnt (5 - c) : ℕ) : ℝ) : EReal) := by
      have : 0 < min cnt (5 - c) := by omega
      exact_mod_cast this
    rw [if_pos htake]
    have hsum : (∑ t ∈ Finset.univ.filter (fun t : Fin 5 => t.val < c), S t) + μ * ((min cnt (5 - c) : ℕ) : ℝ)
        = ∑ t ∈ Finset.univ.filter (fun t : Fin 5 => t.val < c + cnt), S t := by
      have hsplit : Finset.univ.filter (fun t : Fin 5 => t.val < c + cnt)
          = Finset.univ.filter (fun t : Fin 5 => t.val < c) ∪ Finset.univ.filter (fun t : Fin 5 => c ≤ t.val ∧ t.val < c + cnt) := by
        ext t
        simp only [Finset.mem_filter, Finset.mem_univ, true_and, Finset.mem_union]
        omega
      rw [hsplit, Finset.sum_union]
      · congr 1
        have hconst : ∀ t ∈ Finset.univ.filter (fun t : Fin 5 => c ≤ t.val ∧ t.val < c + cnt), S t = μ := by
          intro t ht
          simp only [Finset.mem_filter, Finset.mem_univ, true_and] at ht
          exact_mod_cast hSm t ht.1 ht.2
        have hcard : (Finset.univ.filter (fun t : Fin 5 => c ≤ t.val ∧ t.val < c + cnt)).card = min cnt (5 - c) := by
          have : (Finset.univ.filter (fun t : Fin 5 => c ≤ t.val ∧ t.val < c + cnt)).map Fin.valEmbedding
              = Finset.Ico c (min 5 (c + cnt)) := by
            ext x
            simp only [Finset.mem_map, Finset.mem_filter, Finset.mem_univ, true_and, Fin.valEmbedding_apply, Finset.mem_Ico]
            constructor
            · rintro ⟨t, ht, rfl⟩
              have := t.isLt
              omega
            · intro hx
              exact ⟨⟨x, by omega⟩, by simp; omega, rfl⟩
          rw [← Finset.card_map Fin.valEmbedding, this, Nat.card_Ico]
          omega
        rw [Finset.sum_congr rfl hconst, Finset.sum_const, hcard, nsmul_eq_mul, mul_comm]
      · rw [Finset.disjoint_left]
        intro t h1 h2
        simp only [Finset.mem_filter, Finset.mem_univ, true_and] at h1 h2
        omega
    refine ⟨c + cnt, rfl, ?_⟩
    simp only
    rw [← EReal.coe_mul, ← EReal.coe_add, hsum]
    by_cases h : 5 ≤ c + cnt
    · refine Or.inl ⟨h, ?_⟩
      congr 1
      refine Finset.sum_congr ?_ fun _ _ => rfl
      ext t
      simp only [Finset.mem_filter, Finset.mem_univ, true_and, iff_true]
      have := t.isLt
      omega
    · exact Or.inr ⟨by omega, by omega, hmt, hcm.symm, rfl⟩

/-- After five rounds the total is the sum of the five smallest. -/
theorem rounds_total {n : ℕ} {cand : Fin n → EReal} {S : Fin 5 → ℝ}
    (hS : ∀ θ < ⊤, At (fun t => ((S t : ℝ) : EReal)) θ (Finset.univ.filter fun i => cand i ≤ θ).card) :
    (round cand (round cand (round cand (round cand (round cand (⊥, 0, 0)))))).2.2 = ((∑ t, S t : ℝ) : EReal) := by
  have h0 : Good cand S 0 (⊥, 0, 0) := by
    refine ⟨0, by simp, Or.inr ⟨le_rfl, by omega, bot_lt_top, ?_, by simp⟩⟩
    have := hS ⊥ bot_lt_top 0
    simp only [Fin.val_zero] at this
    by_contra hne
    have hb := this.2 (Nat.pos_of_ne_zero (Ne.symm hne))
    exact absurd hb (not_le.2 (EReal.bot_lt_coe _))
  obtain ⟨c, -, h | h⟩ := round_good hS 4 _ (round_good hS 3 _ (round_good hS 2 _ (round_good hS 1 _ (round_good hS 0 _ h0))))
  · exact h.2
  · exact absurd h.1 (by omega)

/-- Capping the counts of the parts at five does not change the first five of the whole. -/
theorem At.uncap {k : ℕ} (hk : k ≤ 5) {s : Fin k → EReal} {θ : EReal} {ι : Type} [Fintype ι] (c : ι → ℕ)
    (h : At s θ (∑ l, c l)) : At s θ (∑ l, min 5 (c l)) := by
  intro t
  rw [h t]
  have hle : ∑ l, min 5 (c l) ≤ ∑ l, c l := Finset.sum_le_sum fun l _ => min_le_right _ _
  constructor
  · intro ht
    by_cases hall : ∀ l, c l ≤ 5
    · rwa [Finset.sum_congr rfl fun l _ => min_eq_right (hall l)]
    · push Not at hall
      obtain ⟨l, hl⟩ := hall
      have : min 5 (c l) ≤ ∑ l, min 5 (c l) := Finset.single_le_sum (f := fun l => min 5 (c l)) (fun _ _ => Nat.zero_le _) (Finset.mem_univ l)
      have := t.isLt
      omega
  · intro ht; omega

/-- Of five values described by the count `n`, the number at or below the threshold is `n`, capped at five. -/
theorem At.card {s : Fin 5 → EReal} {θ : EReal} {n : ℕ} (h : At s θ n) : (∑ t, if s t ≤ θ then 1 else 0 : ℕ) = min 5 n := by
  simp only [fun t => propext (h t)]
  have h5 : ∀ (P : Fin 5 → Prop) [DecidablePred P], (∑ t, if P t then 1 else 0 : ℕ) = (if P 0 then 1 else 0) + (if P 1 then 1 else 0)
      + (if P 2 then 1 else 0) + (if P 3 then 1 else 0) + (if P 4 then 1 else 0) := fun P _ => Fin.sum_univ_five _
  rw [h5]
  have e : ((0 : Fin 5) : ℕ) = 0 ∧ ((1 : Fin 5) : ℕ) = 1 ∧ ((2 : Fin 5) : ℕ) = 2 ∧ ((3 : Fin 5) : ℕ) = 3 ∧ ((4 : Fin 5) : ℕ) = 4 :=
    ⟨rfl, rfl, rfl, rfl, rfl⟩
  simp only [e]
  split_ifs <;> omega

/-- The first values of a family read along an ascending rearrangement of all its positions. -/
theorem At.of_sorted {n k : ℕ} (hk : k ≤ n) (x : Fin n → EReal) (π : Fin n → Fin n) (hinj : Function.Injective π)
    (hmono : ∀ i j, i < j → x (π i) ≤ x (π j)) (θ : EReal) :
    At (fun t : Fin k => x (π (t.castLE hk))) θ (∑ i, if x i ≤ θ then 1 else 0) := by
  have hbij : Function.Bijective π := Finite.injective_iff_bijective.1 hinj
  have hcount : (∑ i, if x i ≤ θ then 1 else 0 : ℕ) = (Finset.univ.filter fun i => x (π i) ≤ θ).card := by
    rw [Finset.card_filter]
    exact (Function.Bijective.sum_comp hbij (fun i => if x i ≤ θ then 1 else 0)).symm
  have hm : ∀ i j, i ≤ j → x (π i) ≤ x (π j) := fun i j hij => by
    rcases eq_or_lt_of_le hij with rfl | h
    · exact le_rfl
    · exact hmono i j h
  intro t
  rw [hcount]
  have hIic : ∀ a : Fin n, (Finset.Iic a).card = a.val + 1 := fun a => by simp
  have hIio : ∀ a : Fin n, (Finset.Iio a).card = a.val := fun a => by simp
  constructor
  · intro h
    have : Finset.Iic (t.castLE hk) ⊆ Finset.univ.filter fun i => x (π i) ≤ θ := fun i hi => by
      simp only [Finset.mem_filter, Finset.mem_univ, true_and]
      exact (hm i _ (Finset.mem_Iic.1 hi)).trans h
    have := Finset.card_le_card this
    rw [hIic] at this
    simpa using this
  · intro h
    by_contra hgt
    have : (Finset.univ.filter fun i => x (π i) ≤ θ) ⊆ Finset.Iio (t.castLE hk) := fun i hi => by
      simp only [Finset.mem_filter, Finset.mem_univ, true_and] at hi
      rw [Finset.mem_Iio]
      by_contra hge
      exact hgt ((hm _ i (not_lt.1 hge)).trans hi)
    have := Finset.card_le_card this
    rw [hIio] at this
    simp only [Fin.val_castLE] at this
    omega

end Cert.Smallest

end
-- ==== Proof.Pick.lean ====
module

public import proofs.«01_k».proof.Proof.Gen.KernelIdeal.Frame
public import proofs.«01_k».proof.Proof.IStep
public import proofs.«01_k».proof.Proof.Order

@[expose] public section

set_option maxRecDepth 16384

noncomputable section

namespace Cert.KernelIdeal.Hand

open Cert.KernelIdeal Cert.KernelIdeal.Gen Cert.Smallest
open Idealize.ShloMosaic Idealize.ShloMosaic.TcCoe

variable {F : FTy → Type} [FloatOps F]

/-- The products of a block of queries with one of four pieces of the stored tile. -/
def prod (q : Vec F S256x768 .bf16) (m : Vec F S1024x768 .bf16) : Vec F S256x1024 .f32 :=
  matmul dot_S256x768_S1024x768_S256x1024_1_1_0_0_n_n none q m (constant S256x1024 .f32 0x00000000#32)

/-- The distances of a block of queries to the thirty-two groups of 128 stored rows. -/
def dists (q : Vec F S256x768 .bf16) (m0 m1 m2 m3 : Vec F S1024x768 .bf16) (s : Fin 32 → Vec F S1x128 .f32) :
    Fin 32 → Vec F S256x128 .f32 := fun i =>
  let m := if i.val < 8 then m0 else if i.val < 16 then m1 else if i.val < 24 then m2 else m3
  addf (broadcastTo S256x128 (s i) (by decide))
    (extractStridedSlice S256x128 ![0, 128 * (i.val % 8)] (prod q m) (by revert i; decide))

/-- The five best candidates kept so far merged with the five smallest of the thirty-two new distances. -/
def pick (q : Vec F S256x768 .bf16) (m0 m1 m2 m3 : Vec F S1024x768 .bf16) (s : Fin 32 → Vec F S1x128 .f32)
    (old : Fin 5 → Vec F S256x128 .f32) : Fin 5 → Vec F S256x128 .f32 :=
  kept5 minimumf maximumf old (dists q m0 m1 m2 m3 s)

/-- The five stores of the kept candidates. -/
def keep (i : grid0.Coords) (hc3 : k0_cond3 i = 1#1) (v : Fin 5 → Vec F S256x128 .f32) :
    List ((r : Rect S4096x640) × (r.shape.Idx → Elt F .f32)) :=
  [⟨Rect.unit (s := S4096x640) (k0_off9 i) S256x128.size (k0_off9_inb i hc3), shapeCast S256x128 (v 4) (by decide)⟩,
    ⟨Rect.unit (s := S4096x640) (k0_off8 i) S256x128.size (k0_off8_inb i hc3), shapeCast S256x128 (v 3) (by decide)⟩,
    ⟨Rect.unit (s := S4096x640) (k0_off7 i) S256x128.size (k0_off7_inb i hc3), shapeCast S256x128 (v 2) (by decide)⟩,
    ⟨Rect.unit (s := S4096x640) (k0_off6 i) S256x128.size (k0_off6_inb i hc3), shapeCast S256x128 (v 1) (by decide)⟩,
    ⟨Rect.unit (s := S4096x640) (k0_off5 i) S256x128.size (k0_off5_inb i hc3), shapeCast S256x128 (v 0) (by decide)⟩]

/-- The candidates loaded. -/
def kept (c : Dev nD) (i : grid0.Coords) (hc3 : k0_cond3 i = 1#1) (M15 : Memref sig .tc .vmem S4096x640 .f32) (f15 : Bf (F := F) c M15) :
    Fin 5 → Vec F S256x128 .f32 :=
  ![View.readAt (Elt F) M15.view (Rect.unit (s := S4096x640) (k0_off5 i) S256x128.size (k0_off5_inb i hc3)).toLoadRect f15,
    View.readAt (Elt F) M15.view (Rect.unit (s := S4096x640) (k0_off6 i) S256x128.size (k0_off6_inb i hc3)).toLoadRect f15,
    View.readAt (Elt F) M15.view (Rect.unit (s := S4096x640) (k0_off7 i) S256x128.size (k0_off7_inb i hc3)).toLoadRect f15,
    View.readAt (Elt F) M15.view (Rect.unit (s := S4096x640) (k0_off8 i) S256x128.size (k0_off8_inb i hc3)).toLoadRect f15,
    View.readAt (Elt F) M15.view (Rect.unit (s := S4096x640) (k0_off9 i) S256x128.size (k0_off9_inb i hc3)).toLoadRect f15]

/-- What the scan keeps, from what it loads. -/
def scanPick (c : Dev nD) (i : grid0.Coords) (hc3 : k0_cond3 i = 1#1) (M11 : Memref sig .tc .vmem S4096x768 .bf16)
    (M13 : Memref sig .tc .vmem S4096x768 .bf16) (M14 : Memref sig .tc .vmem S8x4096 .f32) (M15 : Memref sig .tc .vmem S4096x640 .f32)
    (f11 : Bf (F := F) c M11) (f13 : Bf (F := F) c M13) (f14 : Bf (F := F) c M14) (f15 : Bf (F := F) c M15) :
    Fin 5 → Vec F S256x128 .f32 :=
  pick (View.readAt (Elt F) M11.view (Rect.unit (s := S4096x768) (k0_off4 i) S256x768.size (k0_off4_inb i hc3)).toLoadRect f11)
    (View.readAt (Elt F) M13.view (Rect.unit (s := S4096x768) ![0, 0] S1024x768.size (by decide)).toLoadRect f13)
    (View.readAt (Elt F) M13.view (Rect.unit (s := S4096x768) ![1024, 0] S1024x768.size (by decide)).toLoadRect f13)
    (View.readAt (Elt F) M13.view (Rect.unit (s := S4096x768) ![2048, 0] S1024x768.size (by decide)).toLoadRect f13)
    (View.readAt (Elt F) M13.view (Rect.unit (s := S4096x768) ![3072, 0] S1024x768.size (by decide)).toLoadRect f13)
    (fun n => View.readAt (Elt F) M14.view (Rect.unit (s := S8x4096) ![0, 128 * n.val] S1x128.size (by revert n; decide)).toLoadRect f14)
    (kept c i hc3 M15 f15)

/-- The zeros of a block of rows. -/
def zeroV : Vec F S256x1 .f32 := broadcast S256x1 (FloatOps.ofBits .f32 0x00000000#32)

/-- The least kept candidate above the last one. -/
def leastV (cand : Vec F S256x640 .f32) (last : Vec F S256x1 .f32) : Vec F S256x1 .f32 :=
  shapeCast S256x1 (multiReduction .minimumf [1] S256
    (select (cmpf .ogt cand (broadcastTo S256x640 last (by decide))) cand (broadcast S256x640 (FloatOps.ofBits .f32 0x7F800000#32)))
    0x7F800000#32 reduces_S256x640_S256 (.inl rfl) rfl) (by decide)

/-- How often a value occurs among the kept candidates. -/
def timesV (cand : Vec F S256x640 .f32) (m : Vec F S256x1 .f32) : Vec F S256x1 .f32 :=
  shapeCast S256x1 (multiReduction .add [1] S256
    (select (cmpf .oeq cand (broadcastTo S256x640 m (by decide))) (broadcast S256x640 (FloatOps.ofBits .f32 0x3F800000#32))
      (broadcast S256x640 (FloatOps.ofBits .f32 0x00000000#32)))
    0x00000000#32 reduces_S256x640_S256 (.inl rfl) rfl) (by decide)

/-- How many of the five a value takes, after those already taken. -/
def takeV (times cum : Vec F S256x1 .f32) : Vec F S256x1 .f32 :=
  minimumf times (maximumf zeroV (subf (broadcast S256x1 (FloatOps.ofBits .f32 0x40A00000#32)) cum))

/-- A value's share of the total. -/
def shareV (m take : Vec F S256x1 .f32) : Vec F S256x1 .f32 := select (cmpf .ogt take zeroV) (mulf m take) zeroV

/-- The first round's minimum. -/
def m1V (cand : Vec F S256x640 .f32) : Vec F S256x1 .f32 :=
  leastV cand (broadcast S256x1 (Scalar.subf (FloatOps.ofBits .f32 0x00000000#32) (FloatOps.ofBits .f32 0x7F800000#32)))
/-- The second round's minimum. -/
def m2V (cand : Vec F S256x640 .f32) : Vec F S256x1 .f32 := leastV cand (m1V cand)
/-- The third round's minimum. -/
def m3V (cand : Vec F S256x640 .f32) : Vec F S256x1 .f32 := leastV cand (m2V cand)
/-- The fourth round's minimum. -/
def m4V (cand : Vec F S256x640 .f32) : Vec F S256x1 .f32 := leastV cand (m3V cand)
/-- The fifth round's minimum. -/
def m5V (cand : Vec F S256x640 .f32) : Vec F S256x1 .f32 := leastV cand (m4V cand)
/-- The count after one round. -/
def c1V (cand : Vec F S256x640 .f32) : Vec F S256x1 .f32 := addf zeroV (timesV cand (m1V cand))
/-- The count after two rounds. -/
def c2V (cand : Vec F S256x640 .f32) : Vec F S256x1 .f32 := addf (c1V cand) (timesV cand (m2V cand))
/-- The count after three rounds. -/
def c3V (cand : Vec F S256x640 .f32) : Vec F S256x1 .f32 := addf (c2V cand) (timesV cand (m3V cand))
/-- The count after four rounds. -/
def c4V (cand : Vec F S256x640 .f32) : Vec F S256x1 .f32 := addf (c3V cand) (timesV cand (m4V cand))
/-- The total after one round. -/
def t1V (cand : Vec F S256x640 .f32) : Vec F S256x1 .f32 := addf zeroV (shareV (m1V cand) (takeV (timesV cand (m1V cand)) zeroV))
/-- The total after two rounds. -/
def t2V (cand : Vec F S256x640 .f32) : Vec F S256x1 .f32 :=
  addf (t1V cand) (shareV (m2V cand) (takeV (timesV cand (m2V cand)) (c1V cand)))
/-- The total after three rounds. -/
def t3V (cand : Vec F S256x640 .f32) : Vec F S256x1 .f32 :=
  addf (t2V cand) (shareV (m3V cand) (takeV (timesV cand (m3V cand)) (c2V cand)))
/-- The total after four rounds. -/
def t4V (cand : Vec F S256x640 .f32) : Vec F S256x1 .f32 :=
  addf (t3V cand) (shareV (m4V cand) (takeV (timesV cand (m4V cand)) (c3V cand)))
/-- The five rounds over the kept candidates, from nothing. -/
def totalV (cand : Vec F S256x640 .f32) : Vec F S256x1 .f32 :=
  addf (t4V cand) (shareV (m5V cand) (takeV (timesV cand (m5V cand)) (c4V cand)))

/-- The score of a block of rows from its kept candidates and squared norms. -/
def scoreV (v : Fin 5 → Vec F S256x128 .f32) (q : Vec F S256x1 .f32) : Vec F S256x8 .f32 :=
  let cand := concatenate S256x640 1 [⟨S256x128, v 0⟩, ⟨S256x128, v 1⟩, ⟨S256x128, v 2⟩, ⟨S256x128, v 3⟩, ⟨S256x128, v 4⟩]
    concatenates_S256x128_S256x128_S256x128_S256x128_S256x128_S256x640_d1
  broadcastTo S256x8 (shapeCast S256x1 (logistic (subf (addf (divf (totalV cand) (broadcast S256x1 (FloatOps.ofBits .f32 0x40A00000#32))) q)
    (broadcast S256x1 (FloatOps.ofBits .f32 0x3F800000#32)))) (by decide)) (by decide)

/-- The store of a stored tile. -/
def tileW (x : Vec F S4096x768 .f32) : List ((r : Rect S4096x768) × (r.shape.Idx → Elt F .bf16)) :=
  [⟨Rect.unit (s := S4096x768) ![0, 0] S4096x768.size (by decide),
    shapeCast S4096x768 (truncf .bf16 x (by decide)) (by decide)⟩]

/-- The store of a tile's squared norms. -/
def normW (x : Vec F S4096x768 .f32) : List ((r : Rect S8x4096) × (r.shape.Idx → Elt F .f32)) :=
  [⟨Rect.unit (s := S8x4096) ![0, 0] S8x4096.size (by decide),
    shapeCast S8x4096 (matmul dot_S8x768_S4096x768_S8x4096_1_1_0_0_n_n none
      (broadcast S8x768 (FloatOps.ofBits .f32 0x3F800000#32)) (mulf x x) (constant S8x4096 .f32 0x00000000#32)) (by decide)⟩]

section Runs

variable (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)

/-- The block of stored rows loaded. -/
def rowsAt (f9 : Bf (F := F) c M9) : Vec F S4096x768 .f32 :=
  View.readAt (Elt F) M9.view (Rect.unit (s := S4096x768) ![0, 0] S4096x768.size (by decide)).toLoadRect f9

/-- What the first point of a pass keeps, from what it loads and stores. -/
def tilePick (hc3 : k0_cond3 i = 1#1) (f9 : Bf (F := F) c M9) (f11 : Bf (F := F) c M11) (f15 : Bf (F := F) c M15) :
    Fin 5 → Vec F S256x128 .f32 :=
  pick (View.readAt (Elt F) M11.view (Rect.unit (s := S4096x768) (k0_off4 i) S256x768.size (k0_off4_inb i hc3)).toLoadRect f11)
    (M13.view.readCov (tileW (rowsAt c M9 f9)) (Rect.unit (s := S4096x768) ![0, 0] S1024x768.size (by decide)).toLoadRect)
    (M13.view.readCov (tileW (rowsAt c M9 f9)) (Rect.unit (s := S4096x768) ![1024, 0] S1024x768.size (by decide)).toLoadRect)
    (M13.view.readCov (tileW (rowsAt c M9 f9)) (Rect.unit (s := S4096x768) ![2048, 0] S1024x768.size (by decide)).toLoadRect)
    (M13.view.readCov (tileW (rowsAt c M9 f9)) (Rect.unit (s := S4096x768) ![3072, 0] S1024x768.size (by decide)).toLoadRect)
    (fun n => M14.view.readCov (normW (rowsAt c M9 f9)) (Rect.unit (s := S8x4096) ![0, 128 * n.val] S1x128.size (by revert n; decide)).toLoadRect)
    (kept c i hc3 M15 f15)

/-- The store of the score. -/
def scoreW (hc3 : k0_cond3 i = 1#1) (hc4 : k0_cond4 i = 1#1) (v : Fin 5 → Vec F S256x128 .f32) (f12 : Bf (F := F) c M12) :
    List ((r : Rect S256x8) × (r.shape.Idx → Elt F .f32)) :=
  [⟨Rect.unit (s := S256x8) ![0, 0] S256x8.size (by decide),
    scoreV v (View.readAt (Elt F) M12.view (Rect.unit (s := S4096x8) (k0_off10 i) S256x1.size (k0_off10_inb i hc3 hc4)).toLoadRect f12)⟩]

variable (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) (f13 : Bf (F := F) c M13) (f14 : Bf (F := F) c M14) (f15 : Bf (F := F) c M15)

set_option maxHeartbeats 2000000 in
/-- The scan stores the merged candidates. -/
theorem runScan_keep (hc1 : k0_cond1 i ≠ 1#1) (hc2 : cond2 i ≠ 1#1) (hc3 : k0_cond3 i = 1#1) (hc4 : k0_cond4 i ≠ 1#1) :
    (runScan c i M2 h2 M3 h3 M4 h4 M5 h5 M6 h6 M7 h7 M8 h8 M9 h9 M10 h10 M11 h11 M12 h12 M13 h13 M14 h14 M15 h15 hc1 hc2 hc3 hc4 f11 f13 f14 f15).1
      = M15.view.writes (Elt F) f15 (keep i hc3 (scanPick c i hc3 M11 M13 M14 M15 f11 f13 f14 f15)) := rfl

set_option maxHeartbeats 2000000 in
/-- The last pass's scan stores the merged candidates. -/
theorem runScanEnd_keep (hc1 : k0_cond1 i ≠ 1#1) (hc2 : cond2 i ≠ 1#1) (hc3 : k0_cond3 i = 1#1) (hc4 : k0_cond4 i = 1#1) :
    (runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.2
      = M15.view.writes (Elt F) f15 (keep i hc3 (scanPick c i hc3 M11 M13 M14 M15 f11 f13 f14 f15)) := rfl

set_option maxHeartbeats 2000000 in
/-- The last pass's scan stores the scores. -/
theorem runScanEnd_score (hc1 : k0_cond1 i ≠ 1#1) (hc2 : cond2 i ≠ 1#1) (hc3 : k0_cond3 i = 1#1) (hc4 : k0_cond4 i = 1#1) :
    (runScanEnd c i M2 h2 M3 h3 M4 h4 M5 h5 M6 h6 M7 h7 M8 h8 M9 h9 M10 h10 M11 h11 M12 h12 M13 h13 M14 h14 M15 h15 hc1 hc2 hc3 hc4 f10 f11 f12 f13 f14 f15).1.1
      = M10.view.writes (Elt F) f10 (scoreW c i M12 hc3 hc4 (scanPick c i hc3 M11 M13 M14 M15 f11 f13 f14 f15) f12) := rfl

set_option maxHeartbeats 2000000 in
/-- The first point of a pass stores the tile. -/
theorem runTile_tile (hc1 : k0_cond1 i ≠ 1#1) (hc2 : cond2 i = 1#1) (hc3 : k0_cond3 i = 1#1) (hc4 : k0_cond4 i ≠ 1#1) :
    (runTile c i M2 h2 M3 h3 M4 h4 M5 h5 M6 h6 M7 h7 M8 h8 M9 h9 M10 h10 M11 h11 M12 h12 M13 h13 M14 h14 M15 h15 hc1 hc2 hc3 hc4 f9 f11 f13 f14 f15).1
      = (M13.view.writes (Elt F) f13 (tileW (rowsAt c M9 f9)), M14.view.writes (Elt F) f14 (normW (rowsAt c M9 f9)),
        M15.view.writes (Elt F) f15 (keep i hc3 (tilePick c i M9 M11 M13 M14 M15 hc3 f9 f11 f15))) := rfl

set_option maxHeartbeats 2000000 in
/-- The first point of the last pass stores the tile and the scores. -/
theorem runTileEnd_tile (hc1 : k0_cond1 i ≠ 1#1) (hc2 : cond2 i = 1#1) (hc3 : k0_cond3 i = 1#1) (hc4 : k0_cond4 i = 1#1) :
    (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.2
      = (M13.view.writes (Elt F) f13 (tileW (rowsAt c M9 f9)), M14.view.writes (Elt F) f14 (normW (rowsAt c M9 f9)),
        M15.view.writes (Elt F) f15 (keep i hc3 (tilePick c i M9 M11 M13 M14 M15 hc3 f9 f11 f15))) := rfl

set_option maxHeartbeats 2000000 in
/-- The first point of the last pass stores the scores. -/
theorem runTileEnd_score (hc1 : k0_cond1 i ≠ 1#1) (hc2 : cond2 i = 1#1) (hc3 : k0_cond3 i = 1#1) (hc4 : k0_cond4 i = 1#1) :
    (runTileEnd c i M2 h2 M3 h3 M4 h4 M5 h5 M6 h6 M7 h7 M8 h8 M9 h9 M10 h10 M11 h11 M12 h12 M13 h13 M14 h14 M15 h15 hc1 hc2 hc3 hc4 f9 f10 f11 f12 f13 f14 f15).1.1
      = M10.view.writes (Elt F) f10 (scoreW c i M12 hc3 hc4 (tilePick c i M9 M11 M13 M14 M15 hc3 f9 f11 f15) f12) := rfl

end Runs

end Cert.KernelIdeal.Hand

end
-- ==== Proof.Mlp.lean ====
module

public import proofs.«01_k».proof.Proof.Gen.KernelIdeal.Frame
public import proofs.«01_k».proof.Proof.IStep

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The two layers' output for a block of rows. -/
def featV (x : Vec F S256x768 .f32) (w1 : Vec F S768x1536 .bf16) (b1 : Vec F S1x1536 .f32) (w2 : Vec F S1536x768 .bf16)
    (b2 : Vec F S1x768 .f32) : Vec F S256x768 .f32 :=
  addf (matmul dot_S256x1536_S1536x768_S256x768_1_0_0_1_n_n none
      (truncf .bf16 (maximumf (addf (matmul dot_S256x768_S768x1536_S256x1536_1_0_0_1_n_n none
        (truncf .bf16 (shapeCast S256x768 x (by decide)) (by decide)) (shapeCast S768x1536 w1 (by decide)) (constant S256x1536 .f32 0x00000000#32))
        (broadcastTo S256x1536 (shapeCast S1x1536 b1 (by decide)) (by decide)))
        (broadcast S256x1536 (FloatOps.ofBits .f32 0x00000000#32))) (by decide))
      (shapeCast S1536x768 w2 (by decide)) (constant S256x768 .f32 0x00000000#32))
    (broadcastTo S256x768 (shapeCast S1x768 b2 (by decide)) (by decide))

/-- The mean of each row. -/
def meanV (f : Vec F S256x768 .f32) : Vec F S256x1 .f32 :=
  divf (shapeCast S256x1 (multiReduction .add [1] S256 f 0x00000000#32 reduces_S256x768_S256 (.inl rfl) rfl) (by decide))
    (broadcast S256x1 (FloatOps.ofBits .f32 0x44400000#32))

/-- The rows less their means. -/
def centV (f : Vec F S256x768 .f32) : Vec F S256x768 .f32 := subf f (broadcastTo S256x768 (meanV f) (by decide))

/-- The normalized rows. -/
def queryV (f : Vec F S256x768 .f32) (g b : Vec F S1x768 .f32) : Vec F S256x768 .f32 :=
  addf (mulf (mulf (centV f) (broadcastTo S256x768 (rsqrt (addf (meanV (mulf (centV f) (centV f)))
      (broadcast S256x1 (FloatOps.ofBits .f32 0x3727C5AC#32)))) (by decide)))
    (broadcastTo S256x768 (shapeCast S1x768 g (by decide)) (by decide)))
    (broadcastTo S256x768 (shapeCast S1x768 b (by decide)) (by decide))

/-- What is stored of the normalized rows, for the products. -/
def storeQ (q : Vec F S256x768 .f32) : Vec F S256x768 .bf16 :=
  shapeCast S256x768 (truncf .bf16 (mulf (broadcast S256x768 (FloatOps.ofBits .f32 0xC0000000#32)) q) (by decide)) (by decide)

/-- The squared norms stored. -/
def storeN (q : Vec F S256x768 .f32) : Vec F S256x8 .f32 :=
  shapeCast S256x8 (broadcastTo S256x8 (shapeCast S256x1 (shapeCast S256x1
    (multiReduction .add [1] S256 (mulf q q) 0x00000000#32 reduces_S256x768_S256 (.inl rfl) rfl) (by decide)) (by decide)) (by decide)) (by decide)

section Runs

variable (c : Dev nD) (i : grid0.Coords)
    (M2 : Memref sig .tc .vmem S256x768 .f32) (h2 : M2.IsWhole)
    (M3 : Memref sig .tc .vmem S768x1536 .bf16) (h3 : M3.IsWhole)
    (M4 : Memref sig .tc .vmem S1x1536 .f32) (h4 : M4.IsWhole)
    (M5 : Memref sig .tc .vmem S1536x768 .bf16) (h5 : M5.IsWhole)
    (M6 : Memref sig .tc .vmem S1x768 .f32) (h6 : M6.IsWhole)
    (M7 : Memref sig .tc .vmem S1x768 .f32) (h7 : M7.IsWhole)
    (M8 : Memref sig .tc .vmem S1x768 .f32) (h8 : M8.IsWhole)
    (M9 : Memref sig .tc .vmem S4096x768 .f32) (h9 : M9.IsWhole)
    (M10 : Memref sig .tc .vmem S256x8 .f32) (h10 : M10.IsWhole)
    (M11 : Memref sig .tc .vmem S4096x768 .bf16) (h11 : M11.IsWhole)
    (M12 : Memref sig .tc .vmem S4096x8 .f32) (h12 : M12.IsWhole)
    (M13 : Memref sig .tc .vmem S4096x768 .bf16) (h13 : M13.IsWhole)
    (M14 : Memref sig .tc .vmem S8x4096 .f32) (h14 : M14.IsWhole)
    (M15 : Memref sig .tc .vmem S4096x640 .f32) (h15 : M15.IsWhole)

variable (f2 : Bf (F := F) c M2) (f3 : Bf (F := F) c M3) (f4 : Bf (F := F) c M4) (f5 : Bf (F := F) c M5) (f6 : Bf (F := F) c M6)
    (f7 : Bf (F := F) c M7) (f8 : Bf (F := F) c M8) (f11 : Bf (F := F) c M11) (f12 : Bf (F := F) c M12) (f15 : Bf (F := F) c M15)

/-- The normalized rows from the blocks loaded. -/
def mlpQ : Vec F S256x768 .f32 :=
  queryV (featV (View.readAt (Elt F) M2.view (Rect.unit (s := S256x768) ![0, 0] S256x768.size (by decide)).toLoadRect f2)
      (View.readAt (Elt F) M3.view (Rect.unit (s := S768x1536) ![0, 0] S768x1536.size (by decide)).toLoadRect f3)
      (View.readAt (Elt F) M4.view (Rect.unit (s := S1x1536) ![0, 0] S1x1536.size (by decide)).toLoadRect f4)
      (View.readAt (Elt F) M5.view (Rect.unit (s := S1536x768) ![0, 0] S1536x768.size (by decide)).toLoadRect f5)
      (View.readAt (Elt F) M6.view (Rect.unit (s := S1x768) ![0, 0] S1x768.size (by decide)).toLoadRect f6))
    (View.readAt (Elt F) M7.view (Rect.unit (s := S1x768) ![0, 0] S1x768.size (by decide)).toLoadRect f7)
    (View.readAt (Elt F) M8.view (Rect.unit (s := S1x768) ![0, 0] S1x768.size (by decide)).toLoadRect f8)

set_option maxHeartbeats 2000000 in
/-- What a point of the first pass stores. -/
theorem runMlp_stores (hc1 : k0_cond1 i = 1#1) (hc2 : cond2 i ≠ 1#1) (hc3 : k0_cond3 i ≠ 1#1) :
    (runMlp c i M2 h2 M3 h3 M4 h4 M5 h5 M6 h6 M7 h7 M8 h8 M9 h9 M10 h10 M11 h11 M12 h12 M13 h13 M14 h14 M15 h15 hc1 hc2 hc3 f2 f3 f4 f5 f6 f7 f8 f11 f12 f15).1
      = (M11.view.writes (Elt F) f11 [⟨Rect.unit (s := S4096x768) (k0_off1 i) S256x768.size (k0_off1_inb i hc1),
            storeQ (mlpQ c M2 M3 M4 M5 M6 M7 M8 f2 f3 f4 f5 f6 f7 f8)⟩],
        M12.view.writes (Elt F) f12 [⟨Rect.unit (s := S4096x8) (k0_off2 i) S256x8.size (k0_off2_inb i hc1),
            storeN (mlpQ c M2 M3 M4 M5 M6 M7 M8 f2 f3 f4 f5 f6 f7 f8)⟩],
        M15.view.writes (Elt F) f15 [⟨Rect.unit (s := S4096x640) (k0_off3 i) S256x640.size (k0_off3_inb i hc1),
            shapeCast S256x640 (broadcast S256x640 (FloatOps.ofBits .f32 0x7F800000#32)) (by decide)⟩]) := rfl

end Runs

end Cert.KernelIdeal.Hand

end
-- ==== Proof.Spec.lean ====
module

public import Idealize.ShloMosaic.Lib.Pointwise
public import proofs.«01_k».proof.Proof.Order

@[expose] public section

noncomputable section

namespace Cert.Nearest

open Idealize.ShloMosaic Cert.Smallest

/-- The arguments' entries: the rows and the two layers, which may be infinite, and, at real numbers, the normalization's
scale and shift and the stored rows. -/
structure Args where
  X : ℕ → Fin 768 → EReal
  W1 : Fin 768 → Fin 1536 → EReal
  B1 : Fin 1536 → EReal
  W2 : Fin 1536 → Fin 768 → EReal
  B2 : Fin 768 → EReal
  G : Fin 768 → ℝ
  Be : Fin 768 → ℝ
  P : ℕ → Fin 768 → ℝ

/-- The normalization's small constant. -/
def eps : ℝ := 10995116 / 1099511627776

/-- The mean of a row. -/
def mean (f : Fin 768 → ℝ) : ℝ := (∑ k, f k) * (1 / 768)
/-- A row less its mean. -/
def cent (f : Fin 768 → ℝ) (k : Fin 768) : ℝ := f k - mean f
/-- The variance of a row. -/
def var (f : Fin 768 → ℝ) : ℝ := mean fun k => cent f k * cent f k
/-- A row of reals normalized. -/
def query (f g b : Fin 768 → ℝ) (k : Fin 768) : ℝ := cent f k * (Real.sqrt (var f + eps))⁻¹ * g k + b k
/-- A row's squared norm. -/
def norm2 (q : Fin 768 → ℝ) : ℝ := ∑ k, q k * q k
/-- A row's two layers. -/
def feat (x : Fin 768 → EReal) (w1 : Fin 768 → Fin 1536 → EReal) (b1 : Fin 1536 → EReal) (w2 : Fin 1536 → Fin 768 → EReal)
    (b2 : Fin 768 → EReal) (k : Fin 768) : EReal := (∑ j, max ((∑ i, x i * w1 i j) + b1 j) 0 * w2 j k) + b2 k
/-- Every entry of a row is a real. -/
def AllReal (f : Fin 768 → EReal) : Prop := ∀ k, f k = ((f k).toReal : EReal)
open Classical in
/-- A row normalized: a row with an infinite entry has an infinite variance, and so becomes the shift alone. -/
def row (f : Fin 768 → EReal) (g b : Fin 768 → ℝ) (k : Fin 768) : ℝ :=
  if AllReal f then query (fun k => (f k).toReal) g b k else b k
/-- A row less its mean, over the extended reals. -/
def centE (f : Fin 768 → EReal) (k : Fin 768) : EReal := f k - Ideal.div (∑ k, f k) ((768 : ℝ) : EReal)
/-- The variance of a row, over the extended reals. -/
def varE (f : Fin 768 → EReal) : EReal := Ideal.div (∑ k, centE f k * centE f k) ((768 : ℝ) : EReal)

namespace Args

variable (a : Args)

/-- The normalized row. -/
def Q (r : ℕ) : Fin 768 → ℝ := row (feat (a.X r) a.W1 a.B1 a.W2 a.B2) a.G a.Be
/-- The squared distance of a row to a stored row, less the row's own squared norm. -/
def dist (r j : ℕ) : ℝ := norm2 (a.P j) + ∑ k, (-2 * a.Q r k) * a.P j k
/-- The score of a row, from its five smallest distances. -/
def score (r : ℕ) (s : Fin 5 → ℝ) : ℝ := (1 + Real.exp (-((∑ t, s t) * (1 / 5) + norm2 (a.Q r) - 1)))⁻¹

end Args

/-- The small constant is positive. -/
theorem eps_pos : 0 < eps := by unfold eps; norm_num
/-- A variance is not negative. -/
theorem var_nonneg (f : Fin 768 → ℝ) : 0 ≤ var f := by
  unfold var mean
  exact mul_nonneg (Finset.sum_nonneg fun k _ => mul_self_nonneg _) (by norm_num)

/-- A sum of reals, as an extended real. -/
theorem coe_sum {ι : Type} [Fintype ι] (f : ι → ℝ) : ((∑ i, f i : ℝ) : EReal) = ∑ i, (f i : EReal) := by
  classical
  induction (Finset.univ : Finset ι) using Finset.induction_on with
  | empty => simp
  | insert i s hi ih => rw [Finset.sum_insert hi, Finset.sum_insert hi, EReal.coe_add, ih]

/-- The bits of 768. -/
theorem bits_768 : Ideal.ofBits .f32 (1145044992#32) = ((768 : ℝ) : EReal) := by
  simp [Ideal.ofBits, Ideal.ieee]; rw [← EReal.coe_mul]; norm_num
/-- The bits of the small constant. -/
theorem bits_eps : Ideal.ofBits .f32 (925353388#32) = (eps : EReal) := by
  unfold eps
  simp [Ideal.ofBits, Ideal.ieee]; rw [← EReal.coe_mul]; norm_num
/-- The bits of minus two. -/
theorem bits_neg2 : Ideal.ofBits .f32 (3221225472#32) = ((-2 : ℝ) : EReal) := by
  simp [Ideal.ofBits, Ideal.ieee]; rw [← EReal.coe_mul]; norm_num
/-- The bits of two. -/
theorem bits_2 : Ideal.ofBits .f32 (1073741824#32) = ((2 : ℝ) : EReal) := by
  simp [Ideal.ofBits, Ideal.ieee]; rw [← EReal.coe_mul]; norm_num
/-- The bits of five. -/
theorem bits_5 : Ideal.ofBits .f32 (1084227584#32) = ((5 : ℝ) : EReal) := by
  simp [Ideal.ofBits, Ideal.ieee]; rw [← EReal.coe_mul]; norm_num
/-- The bits of infinity. -/
theorem bits_top : Ideal.ofBits .f32 (2139095040#32) = ⊤ := by
  simp [Ideal.ofBits, Ideal.ieee]

/-- A real divided by a nonzero real. -/
theorem div_real (x : ℝ) {y : ℝ} (h : y ≠ 0) : Ideal.div (x : EReal) (y : EReal) = ((x * (1 / y) : ℝ) : EReal) := by
  rw [Ideal.div_coe h, ← EReal.coe_mul]

/-- The inverse square root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The centered entries of a row of reals. -/
theorem centE_real (F : Fin 768 → ℝ) (k : Fin 768) : centE (fun k => (F k : EReal)) k = (cent F k : EReal) := by
  unfold centE
  rw [← coe_sum, div_real _ (by norm_num), ← EReal.coe_sub]
  rfl

/-- The variance of a row of reals. -/
theorem varE_real (F : Fin 768 → ℝ) : varE (fun k => (F k : EReal)) = (var F : EReal) := by
  unfold varE
  simp only [centE_real, ← EReal.coe_mul]
  rw [← coe_sum, div_real _ (by norm_num)]
  rfl

/-- The square of an extended real is not negative. -/
theorem square_nonneg (x : EReal) : 0 ≤ x * x := by
  induction x with
  | bot => simp
  | top => simp
  | coe x => rw [← EReal.coe_mul]; exact_mod_cast mul_self_nonneg x

/-- The variance of a row with an infinite entry is infinite. -/
theorem varE_top {f : Fin 768 → EReal} (h : ¬ AllReal f) : varE f = ⊤ := by
  obtain ⟨k, hk⟩ := not_forall.1 h
  have hc : centE f k = ⊤ ∨ centE f k = ⊥ := by
    unfold centE
    generalize Ideal.div (∑ k, f k) ((768 : ℝ) : EReal) = μ
    generalize f k = x at hk
    induction x with
    | bot => right; exact EReal.bot_sub _
    | coe x => exact absurd rfl hk
    | top =>
      induction μ with
      | bot => left; rfl
      | coe y => left; exact EReal.top_sub_coe y
      | top => right; rfl
  have hs : centE f k * centE f k = ⊤ := by
    rcases hc with hc | hc <;> rw [hc] <;> simp
  have ht : ∑ k, centE f k * centE f k = ⊤ :=
    top_le_iff.1 (hs ▸ Finset.single_le_sum (f := fun k => centE f k * centE f k) (fun k _ => square_nonneg _) (Finset.mem_univ k))
  unfold varE
  rw [ht, Ideal.div_coe (by norm_num)]
  exact EReal.top_mul_coe_of_pos (by norm_num)

/-- A row normalized by the inverse square root. -/
theorem row_rsqrt (f : Fin 768 → EReal) (g b : Fin 768 → ℝ) (k : Fin 768) :
    centE f k * Ideal.rsqrt (varE f + (eps : EReal)) * (g k : EReal) + (b k : EReal) = (row f g b k : EReal) := by
  by_cases h : AllReal f
  · obtain ⟨F, rfl⟩ : ∃ F : Fin 768 → ℝ, f = fun k => (F k : EReal) := ⟨fun k => (f k).toReal, funext h⟩
    rw [row, if_pos h, centE_real, varE_real, ← EReal.coe_add, rsqrt_real (add_pos_of_nonneg_of_pos (var_nonneg F) eps_pos),
      ← EReal.coe_mul, ← EReal.coe_mul, ← EReal.coe_add]
    rfl
  · rw [row, if_neg h, varE_top h, EReal.top_add_coe, Ideal.rsqrt_top, mul_zero, zero_mul, zero_add]

/-- A row normalized by dividing by the square root. -/
theorem row_sqrt (f : Fin 768 → EReal) (g b : Fin 768 → ℝ) (k : Fin 768) :
    Ideal.div (centE f k) (Ideal.sqrt (varE f + (eps : EReal))) * (g k : EReal) + (b k : EReal) = (row f g b k : EReal) := by
  by_cases h : AllReal f
  · obtain ⟨F, rfl⟩ : ∃ F : Fin 768 → ℝ, f = fun k => (F k : EReal) := ⟨fun k => (f k).toReal, funext h⟩
    have hp := add_pos_of_nonneg_of_pos (var_nonneg F) eps_pos
    rw [row, if_pos h, centE_real, varE_real, ← EReal.coe_add, Ideal.sqrt_coe, if_neg (not_lt.2 hp.le),
      div_real _ (Real.sqrt_pos.2 hp).ne', ← EReal.coe_mul, ← EReal.coe_add, one_div]
    rfl
  · rw [row, if_neg h, varE_top h, EReal.top_add_coe, Ideal.sqrt_top, Ideal.div, if_neg EReal.top_ne_zero, EReal.inv_top,
      mul_zero, zero_mul, zero_add]

end Cert.Nearest

end
-- ==== Proof.Sem.lean ====
module

public import proofs.«01_k».proof.Proof.Pick
public import proofs.«01_k».proof.Proof.Mlp
public import proofs.«01_k».proof.Proof.Spec

@[expose] public section

set_option maxRecDepth 16384

noncomputable section

namespace Cert.KernelIdeal.Hand

open Cert.KernelIdeal Cert.KernelIdeal.Gen Cert.Smallest Cert.Nearest
open Idealize.ShloMosaic Idealize.ShloMosaic.TcCoe

/-- The mean of a row. -/
theorem meanV_at {f : Vec Ideal S256x768 .f32} {r : Fin 256} {F : Fin 768 → EReal} (hf : ∀ k, f (ix2 r k) = F k) :
    meanV f (ix2 r 0) = Ideal.div (∑ k, F k) ((768 : ℝ) : EReal) := by
  pointwise [meanV]
  simp only [hf, bits_768]

/-- The centered row. -/
theorem centV_at {f : Vec Ideal S256x768 .f32} {r : Fin 256} {F : Fin 768 → EReal} (hf : ∀ k, f (ix2 r k) = F k) (k : Fin 768) :
    centV f (ix2 r k) = centE F k := by
  pointwise [centV]
  rw [hf, meanV_at hf]
  rfl

/-- The normalized row. -/
theorem queryV_at {f : Vec Ideal S256x768 .f32} {g b : Vec Ideal S1x768 .f32} {r : Fin 256} {F : Fin 768 → EReal} {G B : Fin 768 → ℝ}
    (hf : ∀ k, f (ix2 r k) = F k) (hg : ∀ k, g (ix2 0 k) = (G k : EReal)) (hb : ∀ k, b (ix2 0 k) = (B k : EReal)) (k : Fin 768) :
    queryV f g b (ix2 r k) = (row F G B k : EReal) := by
  pointwise [queryV]
  have hv : meanV (mulf (centV f) (centV f)) (ix2 r 0) = varE F :=
    meanV_at (F := fun k => centE F k * centE F k) fun k => by
      pointwise []
      rw [centV_at hf]
  rw [hg, hb, centV_at hf, hv, bits_eps]
  exact row_rsqrt F G B k

/-- The two layers. -/
theorem featV_at {x : Vec Ideal S256x768 .f32} {w1 : Vec Ideal S768x1536 .bf16} {b1 : Vec Ideal S1x1536 .f32}
    {w2 : Vec Ideal S1536x768 .bf16} {b2 : Vec Ideal S1x768 .f32} {r : Fin 256} {X : Fin 768 → EReal} {W1 : Fin 768 → Fin 1536 → EReal}
    {B1 : Fin 1536 → EReal} {W2 : Fin 1536 → Fin 768 → EReal} {B2 : Fin 768 → EReal}
    (hx : ∀ k, x (ix2 r k) = X k) (hw1 : ∀ i j, w1 (ix2 i j) = W1 i j) (hb1 : ∀ j, b1 (ix2 0 j) = B1 j)
    (hw2 : ∀ i j, w2 (ix2 i j) = W2 i j) (hb2 : ∀ j, b2 (ix2 0 j) = B2 j) (k : Fin 768) :
    featV x w1 b1 w2 b2 (ix2 r k) = feat X W1 B1 W2 B2 k := by
  pointwise [featV]
  simp only [hx, hw1, hb1, hw2, hb2]
  rfl

/-- The stored multiple of a normalized row. -/
theorem storeQ_real {q : Vec Ideal S256x768 .f32} {r : Fin 256} {Q : Fin 768 → ℝ} (hq : ∀ k, q (ix2 r k) = (Q k : EReal)) (k : Fin 768) :
    storeQ q (ix2 r k) = ((-2 * Q k : ℝ) : EReal) := by
  pointwise [storeQ]
  rw [hq, bits_neg2, ← EReal.coe_mul]

/-- The stored squared norm of a normalized row. -/
theorem storeN_real {q : Vec Ideal S256x768 .f32} {r : Fin 256} {Q : Fin 768 → ℝ} (hq : ∀ k, q (ix2 r k) = (Q k : EReal)) (e : Fin 8) :
    storeN q (ix2 r e) = (norm2 Q : EReal) := by
  pointwise [storeN]
  simp only [hq, ← EReal.coe_mul, ← coe_sum]
  rfl

/-- The distances at real entries: the pieces are the rows of one tile. -/
theorem dists_real {q : Vec Ideal S256x768 .bf16} {m0 m1 m2 m3 : Vec Ideal S1024x768 .bf16} {s : Fin 32 → Vec Ideal S1x128 .f32}
    {r : Fin 256} {Q : Fin 768 → ℝ} {P : ℕ → Fin 768 → ℝ}
    (hq : ∀ k, q (ix2 r k) = (Q k : EReal))
    (h0 : ∀ (j : Fin 1024) k, m0 (ix2 j k) = (P j.val k : EReal)) (h1 : ∀ (j : Fin 1024) k, m1 (ix2 j k) = (P (1024 + j.val) k : EReal))
    (h2 : ∀ (j : Fin 1024) k, m2 (ix2 j k) = (P (2048 + j.val) k : EReal)) (h3 : ∀ (j : Fin 1024) k, m3 (ix2 j k) = (P (3072 + j.val) k : EReal))
    (hs : ∀ i (l : Fin 128), s i (ix2 0 l) = (norm2 (P (128 * i.val + l.val)) : EReal)) (i : Fin 32) (l : Fin 128) :
    dists q m0 m1 m2 m3 s i (ix2 r l) = ((norm2 (P (128 * i.val + l.val)) + ∑ k, Q k * P (128 * i.val + l.val) k : ℝ) : EReal) := by
  unfold dists prod
  pointwise []
  have hm : ∀ (j : Fin 1024), j.val = 128 * (i.val % 8) + l.val → ∀ x,
      (if i.val < 8 then m0 else if i.val < 16 then m1 else if i.val < 24 then m2 else m3) (ix2 j x) = (P (128 * i.val + l.val) x : EReal) := by
    intro j hj x
    have hi := i.isLt
    split_ifs
    · rw [h0]; congr 2; omega
    · rw [h1]; congr 2; omega
    · rw [h2]; congr 2; omega
    · rw [h3]; congr 2; omega
  simp only [hq, hs]
  rw [EReal.coe_add, coe_sum]
  congr 1
  refine Finset.sum_congr rfl fun x _ => ?_
  rw [EReal.coe_mul]
  congr 1
  exact hm _ rfl x

/-- One round over a block of rows is one round over each row. -/
theorem round_real {cand : Vec Ideal S256x640 .f32} {last cum tot : Vec Ideal S256x1 .f32} {r : Fin 256} {x : Fin 640 → EReal}
    {p : EReal × EReal × EReal} (hx : ∀ j, cand (ix2 r j) = x j) (hl : last (ix2 r 0) = p.1) (hc : cum (ix2 r 0) = p.2.1)
    (ht : tot (ix2 r 0) = p.2.2) :
    leastV cand last (ix2 r 0) = (round x p).1 ∧
      addf cum (timesV cand (leastV cand last)) (ix2 r 0) = (round x p).2.1 ∧
      addf tot (shareV (leastV cand last) (takeV (timesV cand (leastV cand last)) cum)) (ix2 r 0) = (round x p).2.2 := by
  have h1 : leastV cand last (ix2 r 0) = (round x p).1 := by
    pointwise [leastV]
    simp only [hx, hl, bits_top]
    rfl
  have h2 : timesV cand (leastV cand last) (ix2 r 0) = ∑ i, if x i = (round x p).1 then (1 : EReal) else 0 := by
    pointwise [timesV]
    simp only [hx, h1]
  have h3 : takeV (timesV cand (leastV cand last)) cum (ix2 r 0)
      = min (∑ i, if x i = (round x p).1 then (1 : EReal) else 0) (max 0 (5 - p.2.1)) := by
    pointwise [takeV, zeroV]
    rw [h2, hc, bits_5]
    rfl
  refine ⟨h1, ?_, ?_⟩
  · pointwise []
    rw [h2, hc]
    rfl
  · pointwise [shareV, zeroV]
    rw [h1, h3, ht]
    rfl

/-- The five rounds over a block of rows are five rounds over each row. -/
theorem totalV_real {cand : Vec Ideal S256x640 .f32} {r : Fin 256} {x : Fin 640 → EReal} (hx : ∀ j, cand (ix2 r j) = x j) :
    totalV cand (ix2 r 0) = (round x (round x (round x (round x (round x (⊥, 0, 0)))))).2.2 := by
  have z : (zeroV : Vec Ideal S256x1 .f32) (ix2 r 0) = 0 := by pointwise [zeroV]
  have hb : (broadcast S256x1 (Scalar.subf (FloatOps.ofBits (F := Ideal) .f32 0x00000000#32) (FloatOps.ofBits (F := Ideal) .f32 0x7F800000#32)) : Vec Ideal S256x1 .f32)
      (ix2 r 0) = ⊥ := by
    pointwise []
    rw [bits_top]
    rfl
  have r1 := round_real (p := (⊥, 0, 0)) hx hb z z
  have r2 := round_real hx r1.1 r1.2.1 r1.2.2
  have r3 := round_real hx r2.1 r2.2.1 r2.2.2
  have r4 := round_real hx r3.1 r3.2.1 r3.2.2
  exact (round_real hx r4.1 r4.2.1 r4.2.2).2.2

/-- The kept candidates side by side. -/
def catV (v : Fin 5 → Vec Ideal S256x128 .f32) : Vec Ideal S256x640 .f32 :=
  concatenate S256x640 1 [⟨S256x128, v 0⟩, ⟨S256x128, v 1⟩, ⟨S256x128, v 2⟩, ⟨S256x128, v 3⟩, ⟨S256x128, v 4⟩]
    concatenates_S256x128_S256x128_S256x128_S256x128_S256x128_S256x640_d1

/-- A candidate's place. -/
theorem catV_at (v : Fin 5 → Vec Ideal S256x128 .f32) (r : Fin 256) (t : Fin 5) (l : Fin 128) (j : Fin 640) (hj : j.val = l.val + 128 * t.val) :
    catV v (ix2 r j) = v t (ix2 r l) := by
  pointwise [catV]
  have hl := l.isLt
  match t, hj with
  | 0, hj => simp only [Fin.val_zero] at hj; split_ifs <;> first | omega | exact congrArg (fun y => v 0 (ix2 r y)) (Fin.ext (by dsimp only; omega))
  | 1, hj => have : ((1 : Fin 5) : ℕ) = 1 := rfl; split_ifs <;> first | omega | exact congrArg (fun y => v 1 (ix2 r y)) (Fin.ext (by dsimp only; omega))
  | 2, hj => have : ((2 : Fin 5) : ℕ) = 2 := rfl; split_ifs <;> first | omega | exact congrArg (fun y => v 2 (ix2 r y)) (Fin.ext (by dsimp only; omega))
  | 3, hj => have : ((3 : Fin 5) : ℕ) = 3 := rfl; split_ifs <;> first | omega | exact congrArg (fun y => v 3 (ix2 r y)) (Fin.ext (by dsimp only; omega))
  | 4, hj => have : ((4 : Fin 5) : ℕ) = 4 := rfl; split_ifs <;> first | omega | exact congrArg (fun y => v 4 (ix2 r y)) (Fin.ext (by dsimp only; omega))

/-- The score of a row, when lane by lane its candidates are the least of their lane's distances, and together those are
the distances of which the given five are the least. -/
theorem scoreV_real {v : Fin 5 → Vec Ideal S256x128 .f32} {q : Vec Ideal S256x1 .f32} {r : Fin 256} {N : ℝ} {S : Fin 5 → ℝ}
    {C : EReal → Fin 128 → ℕ} (hq : q (ix2 r 0) = (N : EReal)) (hv : ∀ θ < ⊤, ∀ l, At (fun t => v t (ix2 r l)) θ (C θ l))
    (hS : ∀ θ < ⊤, At (fun t => ((S t : ℝ) : EReal)) θ (∑ l, C θ l)) (e : Fin 8) :
    scoreV v q (ix2 r e) = (((1 + Real.exp (-((∑ t, S t) * (1 / 5) + N - 1)))⁻¹ : ℝ) : EReal) := by
  have hc : ∀ θ < ⊤, (Finset.univ.filter fun j => catV v (ix2 r j) ≤ θ).card = ∑ l, min 5 (C θ l) := by
    intro θ hθ
    rw [Finset.card_filter, ← Equiv.sum_comp (finProdFinEquiv (m := 5) (n := 128)), Fintype.sum_prod_type, Finset.sum_comm]
    refine Finset.sum_congr rfl fun l _ => ?_
    rw [← (hv θ hθ l).card]
    refine Finset.sum_congr rfl fun t _ => ?_
    rw [catV_at v r t l _ rfl]
  have ht : totalV (catV v) (ix2 r 0) = ((∑ t, S t : ℝ) : EReal) := by
    rw [totalV_real (x := fun j => catV v (ix2 r j)) fun j => rfl]
    refine rounds_total fun θ hθ => ?_
    rw [hc θ hθ]
    exact At.uncap le_rfl _ (hS θ hθ)
  have key : scoreV v q (ix2 r e) = Ideal.logistic (Ideal.div (totalV (catV v) (ix2 r 0)) (Ideal.ofBits .f32 1084227584#32) + q (ix2 r 0) - 1) := by
    unfold scoreV
    pointwise []
    rfl
  rw [key, ht, hq, bits_5, div_real _ (by norm_num), ← EReal.coe_add, ← EReal.coe_one, ← EReal.coe_sub, Ideal.logistic_coe]

end Cert.KernelIdeal.Hand

end
-- ==== Proof.Cases.lean ====
module

public import proofs.«01_k».proof.Proof.Sem
public import Idealize.ShloMosaic.Lib.WritesUnit

@[expose] public section

set_option maxRecDepth 16384

noncomputable section

namespace Cert.KernelIdeal.Hand

open Cert.KernelIdeal Cert.KernelIdeal.Gen Cert.Smallest Cert.Nearest
open Idealize.ShloMosaic Idealize.ShloMosaic.TcCoe

/-- A unit-stride load reads the view at the shifted index. -/
theorem load_at {c : Dev nD} {sp : Space} {d : Fin 2 → ℕ} {e : EltTy} (M : Memref sig .tc sp ⟨2, d⟩ e) (f : Bf (F := Ideal) c M)
    {off off' size : Fin 2 → ℕ} (heq : off = off') (inb : ∀ a, off a + size a ≤ d a) (x : (Rect.unit (s := ⟨2, d⟩) off size inb).shape.Idx) (y : (⟨2, d⟩ : Shape).Idx)
    (h0 : (y (0 : Fin 2)).val = off' 0 + (x (0 : Fin 2)).val) (h1 : (y (1 : Fin 2)).val = off' 1 + (x (1 : Fin 2)).val) :
    View.readAt (Elt Ideal) M.view (Rect.unit (s := ⟨2, d⟩) off size inb).toLoadRect f x = M.view.read (Elt Ideal) f y := by
  subst heq
  rw [View.readAt_apply]
  refine congrArg _ (funext fun a => Fin.ext ?_)
  revert a
  refine Fin.forall_fin_two.mpr ⟨?_, ?_⟩
  · show off 0 + 1 * (x (0 : Fin 2)).val = _
    rw [h0, Nat.one_mul]
  · show off 1 + 1 * (x (1 : Fin 2)).val = _
    rw [h1, Nat.one_mul]

/-- The stored tile reads the rows loaded. -/
theorem tileW_at {c : Dev nD} (M13 : Memref sig .tc .vmem S4096x768 .bf16) (f13 : Bf (F := Ideal) c M13) (x : Vec Ideal S4096x768 .f32)
    (j : Fin 4096) (k : Fin 768) : M13.view.read (Elt Ideal) (M13.view.writes (Elt Ideal) f13 (tileW x)) (ix2 j k) = x (ix2 j k) := by
  refine (View.read_writes_cons_rows_of_mem M13.view f13 _ _ [] (ix2 j k) (ix2 j k) (o := 0) rfl (Nat.zero_add _).symm rfl).trans ?_
  pointwise []

/-- The stored squared norms read the rows' squared norms. -/
theorem normW_at {c : Dev nD} (M14 : Memref sig .tc .vmem S8x4096 .f32) (f14 : Bf (F := Ideal) c M14) {x : Vec Ideal S4096x768 .f32}
    {j : Fin 4096} {P : Fin 768 → ℝ} (hx : ∀ k, x (ix2 j k) = (P k : EReal)) (e : Fin 8) :
    M14.view.read (Elt Ideal) (M14.view.writes (Elt Ideal) f14 (normW x)) (ix2 e j) = (norm2 P : EReal) := by
  refine (View.read_writes_cons_rows_of_mem M14.view f14 _ _ [] (ix2 e j) (ix2 e j) (o := 0) rfl (Nat.zero_add _).symm rfl).trans ?_
  pointwise []
  simp only [hx, ← EReal.coe_mul, one_mul, ← coe_sum]
  rfl

/-- A candidate's column. -/
def col (t : Fin 5) (l : Fin 128) : Fin 640 := ⟨128 * t.val + l.val, by have := t.isLt; have := l.isLt; omega⟩

/-- The candidates stored, inside the block of rows. -/
theorem keep_in {c : Dev nD} (i : grid0.Coords) (hc3 : k0_cond3 i = 1#1) (M15 : Memref sig .tc .vmem S4096x640 .f32) (f15 : Bf (F := Ideal) c M15)
    (v : Fin 5 → Vec Ideal S256x128 .f32) (t : Fin 5) (R : Fin 4096) (r : Fin 256) (hR : R.val = 256 * (i 1).val + r.val) (l : Fin 128) :
    M15.view.read (Elt Ideal) (M15.view.writes (Elt Ideal) f15 (keep i hc3 v)) (ix2 R (col t l)) = v t (ix2 r l) := by
  have hl := l.isLt
  have sc : ∀ w : Vec Ideal S256x128 .f32, ∀ h, shapeCast S256x128 w h (ix2 r l) = w (ix2 r l) := fun w h => by pointwise []
  unfold keep
  match t with
  | 0 =>
    rw [View.read_writes_cons_unit_of_not_mem M15.view f15 _ _ _ _ (k0_off9_eq i) (1 : Fin 2) (Or.inl (by show 128 * 0 + l.val < 512; omega)),
      View.read_writes_cons_unit_of_not_mem M15.view f15 _ _ _ _ (k0_off8_eq i) (1 : Fin 2) (Or.inl (by show 128 * 0 + l.val < 384; omega)),
      View.read_writes_cons_unit_of_not_mem M15.view f15 _ _ _ _ (k0_off7_eq i) (1 : Fin 2) (Or.inl (by show 128 * 0 + l.val < 256; omega)),
      View.read_writes_cons_unit_of_not_mem M15.view f15 _ _ _ _ (k0_off6_eq i) (1 : Fin 2) (Or.inl (by show 128 * 0 + l.val < 128; omega))]
    exact (View.read_writes_cons_unit_of_mem M15.view f15 _ _ _ _ (ix2 r l) (k0_off5_eq i)
      (Fin.forall_fin_two.mpr ⟨hR, by show 128 * 0 + l.val = 0 + l.val; omega⟩)).trans (sc _ _)
  | 1 =>
    rw [View.read_writes_cons_unit_of_not_mem M15.view f15 _ _ _ _ (k0_off9_eq i) (1 : Fin 2) (Or.inl (by show 128 * 1 + l.val < 512; omega)),
      View.read_writes_cons_unit_of_not_mem M15.view f15 _ _ _ _ (k0_off8_eq i) (1 : Fin 2) (Or.inl (by show 128 * 1 + l.val < 384; omega)),
      View.read_writes_cons_unit_of_not_mem M15.view f15 _ _ _ _ (k0_off7_eq i) (1 : Fin 2) (Or.inl (by show 128 * 1 + l.val < 256; omega))]
    exact (View.read_writes_cons_unit_of_mem M15.view f15 _ _ _ _ (ix2 r l) (k0_off6_eq i)
      (Fin.forall_fin_two.mpr ⟨hR, by show 128 * 1 + l.val = 128 + l.val; omega⟩)).trans (sc _ _)
  | 2 =>
    rw [View.read_writes_cons_unit_of_not_mem M15.view f15 _ _ _ _ (k0_off9_eq i) (1 : Fin 2) (Or.inl (by show 128 * 2 + l.val < 512; omega)),
      View.read_writes_cons_unit_of_not_mem M15.view f15 _ _ _ _ (k0_off8_eq i) (1 : Fin 2) (Or.inl (by show 128 * 2 + l.val < 384; omega))]
    exact (View.read_writes_cons_unit_of_mem M15.view f15 _ _ _ _ (ix2 r l) (k0_off7_eq i)
      (Fin.forall_fin_two.mpr ⟨hR, by show 128 * 2 + l.val = 256 + l.val; omega⟩)).trans (sc _ _)
  | 3 =>
    rw [View.read_writes_cons_unit_of_not_mem M15.view f15 _ _ _ _ (k0_off9_eq i) (1 : Fin 2) (Or.inl (by show 128 * 3 + l.val < 512; omega))]
    exact (View.read_writes_cons_unit_of_mem M15.view f15 _ _ _ _ (ix2 r l) (k0_off8_eq i)
      (Fin.forall_fin_two.mpr ⟨hR, by show 128 * 3 + l.val = 384 + l.val; omega⟩)).trans (sc _ _)
  | 4 =>
    exact (View.read_writes_cons_unit_of_mem M15.view f15 _ _ _ _ (ix2 r l) (k0_off9_eq i)
      (Fin.forall_fin_two.mpr ⟨hR, by show 128 * 4 + l.val = 512 + l.val; omega⟩)).trans (sc _ _)

/-- The candidates stored, outside the block of rows. -/
theorem keep_out {c : Dev nD} (i : grid0.Coords) (hc3 : k0_cond3 i = 1#1) (M15 : Memref sig .tc .vmem S4096x640 .f32) (f15 : Bf (F := Ideal) c M15)
    (v : Fin 5 → Vec Ideal S256x128 .f32) (R : Fin 4096) (hR : R.val < 256 * (i 1).val ∨ 256 * (i 1).val + 256 ≤ R.val) (j : Fin 640) :
    M15.view.read (Elt Ideal) (M15.view.writes (Elt Ideal) f15 (keep i hc3 v)) (ix2 R j) = M15.view.read (Elt Ideal) f15 (ix2 R j) := by
  unfold keep
  rw [View.read_writes_cons_unit_of_not_mem M15.view f15 _ _ _ _ (k0_off9_eq i) (0 : Fin 2) hR,
    View.read_writes_cons_unit_of_not_mem M15.view f15 _ _ _ _ (k0_off8_eq i) (0 : Fin 2) hR,
    View.read_writes_cons_unit_of_not_mem M15.view f15 _ _ _ _ (k0_off7_eq i) (0 : Fin 2) hR,
    View.read_writes_cons_unit_of_not_mem M15.view f15 _ _ _ _ (k0_off6_eq i) (0 : Fin 2) hR,
    View.read_writes_cons_unit_of_not_mem M15.view f15 _ _ _ _ (k0_off5_eq i) (0 : Fin 2) hR]
  rfl

/-- The candidates loaded. -/
theorem kept_at {c : Dev nD} (i : grid0.Coords) (hc3 : k0_cond3 i = 1#1) (M15 : Memref sig .tc .vmem S4096x640 .f32) (f15 : Bf (F := Ideal) c M15)
    (t : Fin 5) (R : Fin 4096) (r : Fin 256) (hR : R.val = 256 * (i 1).val + r.val) (l : Fin 128) :
    kept c i hc3 M15 f15 t (ix2 r l) = M15.view.read (Elt Ideal) f15 (ix2 R (col t l)) :=
  match t with
  | 0 => load_at M15 f15 (k0_off5_eq i) _ (ix2 r l) _ hR rfl
  | 1 => load_at M15 f15 (k0_off6_eq i) _ (ix2 r l) _ hR rfl
  | 2 => load_at M15 f15 (k0_off7_eq i) _ (ix2 r l) _ hR rfl
  | 3 => load_at M15 f15 (k0_off8_eq i) _ (ix2 r l) _ hR rfl
  | 4 => load_at M15 f15 (k0_off9_eq i) _ (ix2 r l) _ hR rfl

/-- How many of a lane's first distances are at most a bound. -/
def below (a : Args) (R : ℕ) (l : Fin 128) (n : ℕ) (θ : EReal) : ℕ :=
  ∑ j ∈ Finset.range n, if ((a.dist R (128 * j + l.val) : ℝ) : EReal) ≤ θ then 1 else 0

/-- The distances the scan merges. -/
def scanDists (c : Dev nD) (i : grid0.Coords) (hc3 : k0_cond3 i = 1#1) (M11 : Memref sig .tc .vmem S4096x768 .bf16)
    (M13 : Memref sig .tc .vmem S4096x768 .bf16) (M14 : Memref sig .tc .vmem S8x4096 .f32)
    (f11 : Bf (F := Ideal) c M11) (f13 : Bf (F := Ideal) c M13) (f14 : Bf (F := Ideal) c M14) : Fin 32 → Vec Ideal S256x128 .f32 :=
  dists
    (View.readAt (Elt Ideal) M11.view (Rect.unit (s := S4096x768) (k0_off4 i) S256x768.size (k0_off4_inb i hc3)).toLoadRect f11)
    (View.readAt (Elt Ideal) M13.view (Rect.unit (s := S4096x768) ![0, 0] S1024x768.size (by decide)).toLoadRect f13)
    (View.readAt (Elt Ideal) M13.view (Rect.unit (s := S4096x768) ![1024, 0] S1024x768.size (by decide)).toLoadRect f13)
    (View.readAt (Elt Ideal) M13.view (Rect.unit (s := S4096x768) ![2048, 0] S1024x768.size (by decide)).toLoadRect f13)
    (View.readAt (Elt Ideal) M13.view (Rect.unit (s := S4096x768) ![3072, 0] S1024x768.size (by decide)).toLoadRect f13)
    (fun n => View.readAt (Elt Ideal) M14.view (Rect.unit (s := S8x4096) ![0, 128 * n.val] S1x128.size (by revert n; decide)).toLoadRect f14)

/-- The scan merges its distances into the candidates loaded. -/
theorem scanPick_eq (c : Dev nD) (i : grid0.Coords) (hc3 : k0_cond3 i = 1#1) (M11 : Memref sig .tc .vmem S4096x768 .bf16)
    (M13 : Memref sig .tc .vmem S4096x768 .bf16) (M14 : Memref sig .tc .vmem S8x4096 .f32) (M15 : Memref sig .tc .vmem S4096x640 .f32)
    (f11 : Bf (F := Ideal) c M11) (f13 : Bf (F := Ideal) c M13) (f14 : Bf (F := Ideal) c M14) (f15 : Bf (F := Ideal) c M15) :
    scanPick c i hc3 M11 M13 M14 M15 f11 f13 f14 f15
      = kept5 minimumf maximumf (kept c i hc3 M15 f15) (scanDists c i hc3 M11 M13 M14 f11 f13 f14) := rfl

/-- A distance the scan merges. -/
theorem scanDists_at {c : Dev nD} (a : Args) (i : grid0.Coords) (hc3 : k0_cond3 i = 1#1) {M11 : Memref sig .tc .vmem S4096x768 .bf16}
    {M13 : Memref sig .tc .vmem S4096x768 .bf16} {M14 : Memref sig .tc .vmem S8x4096 .f32}
    {f11 : Bf (F := Ideal) c M11} {f13 : Bf (F := Ideal) c M13} {f14 : Bf (F := Ideal) c M14}
    (T : ℕ) (R : Fin 4096) (r : Fin 256) (hR : R.val = 256 * (i 1).val + r.val)
    (hq : ∀ k, M11.view.read (Elt Ideal) f11 (ix2 R k) = ((-2 * a.Q R.val k : ℝ) : EReal))
    (hp : ∀ (j : Fin 4096) k, M13.view.read (Elt Ideal) f13 (ix2 j k) = (a.P (4096 * T + j.val) k : EReal))
    (hu : ∀ (j : Fin 4096) e, M14.view.read (Elt Ideal) f14 (ix2 e j) = (norm2 (a.P (4096 * T + j.val)) : EReal)) (n : Fin 32) (l : Fin 128) :
    scanDists c i hc3 M11 M13 M14 f11 f13 f14 n (ix2 r l) = ((a.dist R.val (128 * (32 * T + n.val) + l.val) : ℝ) : EReal) := by
  have hj : ∀ j : Fin 1024, 3072 + j.val < 4096 := fun j => by omega
  have hl : ∀ (n : Fin 32) (l : Fin 128), 128 * n.val + l.val < 4096 := fun n l => by omega
  have e0 := dists_real (Q := fun k => -2 * a.Q R.val k) (P := fun j => a.P (4096 * T + j)) (r := r)
    (q := View.readAt (Elt Ideal) M11.view (Rect.unit (s := S4096x768) (k0_off4 i) S256x768.size (k0_off4_inb i hc3)).toLoadRect f11)
    (m0 := View.readAt (Elt Ideal) M13.view (Rect.unit (s := S4096x768) ![0, 0] S1024x768.size (by decide)).toLoadRect f13)
    (m1 := View.readAt (Elt Ideal) M13.view (Rect.unit (s := S4096x768) ![1024, 0] S1024x768.size (by decide)).toLoadRect f13)
    (m2 := View.readAt (Elt Ideal) M13.view (Rect.unit (s := S4096x768) ![2048, 0] S1024x768.size (by decide)).toLoadRect f13)
    (m3 := View.readAt (Elt Ideal) M13.view (Rect.unit (s := S4096x768) ![3072, 0] S1024x768.size (by decide)).toLoadRect f13)
    (s := fun n => View.readAt (Elt Ideal) M14.view (Rect.unit (s := S8x4096) ![0, 128 * n.val] S1x128.size (by revert n; decide)).toLoadRect f14)
    (fun k => (load_at M11 f11 (k0_off4_eq i) _ (ix2 r k) (ix2 R k) hR (Nat.zero_add _).symm).trans (hq k))
    (fun j k => (load_at M13 f13 rfl _ (ix2 j k) (ix2 ⟨j.val, by have := hj j; omega⟩ k) (Nat.zero_add _).symm (Nat.zero_add _).symm).trans (hp _ k))
    (fun j k => (load_at M13 f13 rfl _ (ix2 j k) (ix2 ⟨1024 + j.val, by have := hj j; omega⟩ k) rfl (Nat.zero_add _).symm).trans (hp _ k))
    (fun j k => (load_at M13 f13 rfl _ (ix2 j k) (ix2 ⟨2048 + j.val, by have := hj j; omega⟩ k) rfl (Nat.zero_add _).symm).trans (hp _ k))
    (fun j k => (load_at M13 f13 rfl _ (ix2 j k) (ix2 ⟨3072 + j.val, hj j⟩ k) rfl (Nat.zero_add _).symm).trans (hp _ k))
    (fun n l => (load_at M14 f14 rfl _ (ix2 0 l) (ix2 0 ⟨128 * n.val + l.val, hl n l⟩) rfl rfl).trans (hu _ _)) n l
  refine e0.trans ?_
  unfold Args.dist
  have e : 4096 * T + (128 * n.val + l.val) = 128 * (32 * T + n.val) + l.val := by ring
  simp only [e]

/-- The scan keeps the least of a lane's distances. -/
theorem scanPick_at {c : Dev nD} (a : Args) (i : grid0.Coords) (hc3 : k0_cond3 i = 1#1) {M11 : Memref sig .tc .vmem S4096x768 .bf16}
    {M13 : Memref sig .tc .vmem S4096x768 .bf16} {M14 : Memref sig .tc .vmem S8x4096 .f32} {M15 : Memref sig .tc .vmem S4096x640 .f32}
    {f11 : Bf (F := Ideal) c M11} {f13 : Bf (F := Ideal) c M13} {f14 : Bf (F := Ideal) c M14} {f15 : Bf (F := Ideal) c M15}
    (T : ℕ) (R : Fin 4096) (r : Fin 256) (hR : R.val = 256 * (i 1).val + r.val) (l : Fin 128) (θ : EReal)
    (hq : ∀ k, M11.view.read (Elt Ideal) f11 (ix2 R k) = ((-2 * a.Q R.val k : ℝ) : EReal))
    (hp : ∀ (j : Fin 4096) k, M13.view.read (Elt Ideal) f13 (ix2 j k) = (a.P (4096 * T + j.val) k : EReal))
    (hu : ∀ (j : Fin 4096) e, M14.view.read (Elt Ideal) f14 (ix2 e j) = (norm2 (a.P (4096 * T + j.val)) : EReal))
    (hv : At (fun t => M15.view.read (Elt Ideal) f15 (ix2 R (col t l))) θ (below a R.val l (32 * T) θ)) :
    At (fun t => scanPick c i hc3 M11 M13 M14 M15 f11 f13 f14 f15 t (ix2 r l)) θ (below a R.val l (32 * (T + 1)) θ) := by
  rw [scanPick_eq]
  have hk : At (fun t => kept c i hc3 M15 f15 t (ix2 r l)) θ (below a R.val l (32 * T) θ) := by
    simpa only [kept_at i hc3 M15 f15 _ R r hR l] using hv
  have h := kept5_at (mn := minimumf (F := Ideal) (φ := .f32) (s := S256x128)) (mx := maximumf (F := Ideal) (φ := .f32) (s := S256x128))
    (fun _ _ => rfl) (fun _ _ => rfl) (kept c i hc3 M15 f15) (scanDists c i hc3 M11 M13 M14 f11 f13 f14) hk
  have e : below a R.val l (32 * (T + 1)) θ = below a R.val l (32 * T) θ
      + ∑ n, if scanDists c i hc3 M11 M13 M14 f11 f13 f14 n (ix2 r l) ≤ θ then 1 else 0 := by
    unfold below
    rw [Nat.mul_succ, Finset.sum_range_add, Finset.sum_range (n := 32)]
    simp only [scanDists_at a i hc3 T R r hR hq hp hu]
  rw [e]
  exact h

/-- The first point of a pass keeps what the scan keeps of the tile just stored. -/
theorem tilePick_eq {c : Dev nD} (i : grid0.Coords) (hc3 : k0_cond3 i = 1#1) (M9 : Memref sig .tc .vmem S4096x768 .f32) (M11 : Memref sig .tc .vmem S4096x768 .bf16)
    (M13 : Memref sig .tc .vmem S4096x768 .bf16) (M14 : Memref sig .tc .vmem S8x4096 .f32) (M15 : Memref sig .tc .vmem S4096x640 .f32)
    (f9 : Bf (F := Ideal) c M9) (f11 : Bf (F := Ideal) c M11) (f15 : Bf (F := Ideal) c M15) :
    tilePick c i M9 M11 M13 M14 M15 hc3 f9 f11 f15
      = scanPick c i hc3 M11 M13 M14 M15 f11 (M13.view.writes (Elt Ideal) M13.view.junk (tileW (rowsAt c M9 f9)))
        (M14.view.writes (Elt Ideal) M14.view.junk (normW (rowsAt c M9 f9))) f15 := rfl

/-- The normalized rows, from the arguments' entries. -/
theorem mlpQ_at {c : Dev nD} (a : Args)
    {M2 : Memref sig .tc .vmem S256x768 .f32} {M3 : Memref sig .tc .vmem S768x1536 .bf16} {M4 : Memref sig .tc .vmem S1x1536 .f32}
    {M5 : Memref sig .tc .vmem S1536x768 .bf16} {M6 M7 M8 : Memref sig .tc .vmem S1x768 .f32}
    {f2 : Bf (F := Ideal) c M2} {f3 : Bf (F := Ideal) c M3} {f4 : Bf (F := Ideal) c M4} {f5 : Bf (F := Ideal) c M5} {f6 : Bf (F := Ideal) c M6}
    {f7 : Bf (F := Ideal) c M7} {f8 : Bf (F := Ideal) c M8} (R : ℕ) (r : Fin 256)
    (h2 : ∀ k, M2.view.read (Elt Ideal) f2 (ix2 r k) = a.X R k)
    (h3 : ∀ j k, M3.view.read (Elt Ideal) f3 (ix2 j k) = a.W1 j k)
    (h4 : ∀ k, M4.view.read (Elt Ideal) f4 (ix2 0 k) = a.B1 k)
    (h5 : ∀ j k, M5.view.read (Elt Ideal) f5 (ix2 j k) = a.W2 j k)
    (h6 : ∀ k, M6.view.read (Elt Ideal) f6 (ix2 0 k) = a.B2 k)
    (h7 : ∀ k, M7.view.read (Elt Ideal) f7 (ix2 0 k) = (a.G k : EReal))
    (h8 : ∀ k, M8.view.read (Elt Ideal) f8 (ix2 0 k) = (a.Be k : EReal)) (k : Fin 768) :
    mlpQ c M2 M3 M4 M5 M6 M7 M8 f2 f3 f4 f5 f6 f7 f8 (ix2 r k) = (a.Q R k : EReal) := by
  unfold mlpQ Args.Q
  refine queryV_at (fun k => featV_at (fun k => ?_) (fun j k => ?_) (fun k => ?_) (fun j k => ?_) (fun k => ?_) k) (fun k => ?_) (fun k => ?_) k
  · exact (load_at M2 f2 rfl _ (ix2 r k) (ix2 r k) (Nat.zero_add _).symm (Nat.zero_add _).symm).trans (h2 k)
  · exact (load_at M3 f3 rfl _ (ix2 j k) (ix2 j k) (Nat.zero_add _).symm (Nat.zero_add _).symm).trans (h3 j k)
  · exact (load_at M4 f4 rfl _ (ix2 0 k) (ix2 0 k) (Nat.zero_add _).symm (Nat.zero_add _).symm).trans (h4 k)
  · exact (load_at M5 f5 rfl _ (ix2 j k) (ix2 j k) (Nat.zero_add _).symm (Nat.zero_add _).symm).trans (h5 j k)
  · exact (load_at M6 f6 rfl _ (ix2 0 k) (ix2 0 k) (Nat.zero_add _).symm (Nat.zero_add _).symm).trans (h6 k)
  · exact (load_at M7 f7 rfl _ (ix2 0 k) (ix2 0 k) (Nat.zero_add _).symm (Nat.zero_add _).symm).trans (h7 k)
  · exact (load_at M8 f8 rfl _ (ix2 0 k) (ix2 0 k) (Nat.zero_add _).symm (Nat.zero_add _).symm).trans (h8 k)

/-- The rows' tile loaded. -/
theorem rowsAt_at {c : Dev nD} (M9 : Memref sig .tc .vmem S4096x768 .f32) (f9 : Bf (F := Ideal) c M9) (j : Fin 4096) (k : Fin 768) :
    rowsAt c M9 f9 (ix2 j k) = M9.view.read (Elt Ideal) f9 (ix2 j k) :=
  load_at M9 f9 rfl _ (ix2 j k) (ix2 j k) (Nat.zero_add _).symm (Nat.zero_add _).symm

/-- A sum over groups of one length. -/
theorem sum_groups (m n : ℕ) (g : ℕ → ℕ) : (∑ i ∈ Finset.range n, ∑ l : Fin m, g (m * i + l.val)) = ∑ j ∈ Finset.range (m * n), g j := by
  induction n with
  | zero => rfl
  | succ n ih => rw [Finset.sum_range_succ, ih, Nat.mul_succ, Finset.sum_range_add, Finset.sum_range (n := m)]

/-- All the lanes' distances are all the distances. -/
theorem below_all (a : Args) (R : ℕ) (n : ℕ) (θ : EReal) :
    (∑ l : Fin 128, below a R l n θ) = ∑ j ∈ Finset.range (128 * n), if ((a.dist R j : ℝ) : EReal) ≤ θ then 1 else 0 := by
  unfold below
  rw [Finset.sum_comm]
  exact sum_groups 128 n fun j => if ((a.dist R j : ℝ) : EReal) ≤ θ then 1 else 0

/-- The scores stored. -/
theorem scoreW_at {c : Dev nD} (a : Args) (i : grid0.Coords) (hc3 : k0_cond3 i = 1#1) (hc4 : k0_cond4 i = 1#1)
    {M10 : Memref sig .tc .vmem S256x8 .f32} {M12 : Memref sig .tc .vmem S4096x8 .f32} {f10 : Bf (F := Ideal) c M10} {f12 : Bf (F := Ideal) c M12}
    {v : Fin 5 → Vec Ideal S256x128 .f32} {S : Fin 5 → ℝ} (R : Fin 4096) (r : Fin 256) (hR : R.val = 256 * (i 1).val + r.val)
    (hN : ∀ e, M12.view.read (Elt Ideal) f12 (ix2 R e) = (norm2 (a.Q R.val) : EReal))
    (hv : ∀ θ < ⊤, ∀ l, At (fun t => v t (ix2 r l)) θ (below a R.val l 128 θ))
    (hS : ∀ θ < ⊤, At (fun t => ((S t : ℝ) : EReal)) θ (∑ j ∈ Finset.range 16384, if ((a.dist R.val j : ℝ) : EReal) ≤ θ then 1 else 0)) (e : Fin 8) :
    M10.view.read (Elt Ideal) (M10.view.writes (Elt Ideal) f10 (scoreW c i M12 hc3 hc4 v f12)) (ix2 r e) = (a.score R.val S : EReal) := by
  refine (View.read_writes_cons_rows_of_mem M10.view f10 _ _ [] (ix2 r e) (ix2 r e) (o := 0) rfl (Nat.zero_add _).symm rfl).trans ?_
  exact scoreV_real (N := norm2 (a.Q R.val))
    ((load_at M12 f12 (k0_off10_eq i) _ (ix2 r 0) (ix2 R 0) hR rfl).trans (hN 0)) hv
    (fun θ hθ => by rw [below_all]; exact hS θ hθ) e

end Cert.KernelIdeal.Hand

end
-- ==== Proof.Keeps.lean ====
module

public import proofs.«01_k».proof.Proof.Cases
public import proofs.«01_k».proof.Proof.ILaunch

@[expose] public section

set_option maxRecDepth 16384

noncomputable section

namespace Cert.KernelIdeal.Hand

open Cert.KernelIdeal Cert.KernelIdeal.Gen Cert.Smallest Cert.Nearest
open Idealize.ShloMosaic Idealize.ShloMosaic.TcCoe

/-- A point's first coordinate: the pass. -/
theorem pass_eq : ∀ t : Fin cfg0.N, (grid0.coords t 0).val = t.val / 16 := by decide +kernel
/-- A point's second coordinate: the block of rows. -/
theorem block_eq : ∀ t : Fin cfg0.N, (grid0.coords t 1).val = t.val % 16 := by decide +kernel
/-- The first pass. -/
theorem pass0 : ∀ t : Fin cfg0.N, k0_cond1 (grid0.coords t) = 1#1 ↔ t.val < 16 := by decide +kernel
/-- The first point of a later pass. -/
theorem first (t : Fin cfg0.N) : cond2 (grid0.coords t) = 1#1 ↔ 16 ≤ t.val ∧ t.val % 16 = 0 := by
  have h : ∀ t : Fin cfg0.N, Scalar.cmpi .ne (Scalar.extui (Scalar.andi (Scalar.cmpi .sge (BitVec.ofNat 32 (grid0.coords t 0).val) 1#32)
      (Scalar.cmpi .eq (BitVec.ofNat 32 (grid0.coords t 1).val) 0#32)) : BitVec 32) 0#32 = 1#1 ↔ 16 ≤ t.val ∧ t.val % 16 = 0 := by decide +kernel
  exact h t
/-- The last pass. -/
theorem pass4 : ∀ t : Fin cfg0.N, k0_cond4 (grid0.coords t) = 1#1 ↔ 64 ≤ t.val := by decide +kernel

/-- The merged candidates, row by row. -/
theorem merged {c : Dev nD} (a : Args) (i : grid0.Coords) (hc3 : k0_cond3 i = 1#1) {M15 : Memref sig .tc .vmem S4096x640 .f32} {f15 : Bf (F := Ideal) c M15}
    {v : Fin 5 → Vec Ideal S256x128 .f32} (n : ℕ) (h16 : 16 ≤ n) (hn : n = 16 * (i 0).val + (i 1).val)
    (hold : ∀ (R : Fin 4096) l, ∀ θ < ⊤, At (fun t => M15.view.read (Elt Ideal) f15 (ix2 R (col t l))) θ
      (below a R.val l (32 * ((n - 1 - R.val / 256) / 16)) θ))
    (hnew : ∀ (R : Fin 4096) (r : Fin 256), R.val = 256 * (i 1).val + r.val → ∀ l, ∀ θ < ⊤,
      At (fun t => v t (ix2 r l)) θ (below a R.val l (32 * ((i 0).val - 1 + 1)) θ))
    (R : Fin 4096) (l : Fin 128) (θ : EReal) (hθ : θ < ⊤) :
    At (fun t => M15.view.read (Elt Ideal) (M15.view.writes (Elt Ideal) f15 (keep i hc3 v)) (ix2 R (col t l))) θ
      (below a R.val l (32 * ((n + 1 - 1 - R.val / 256) / 16)) θ) := by
  have hR := R.isLt
  have hb : (i 1).val < 16 := (i 1).isLt
  by_cases hin : R.val / 256 = (i 1).val
  · have hr : R.val = 256 * (i 1).val + (⟨R.val % 256, Nat.mod_lt _ (by norm_num)⟩ : Fin 256).val := by
      show R.val = 256 * (i 1).val + R.val % 256
      omega
    simp only [keep_in i hc3 M15 f15 v _ R _ hr l]
    have := hnew R _ hr l θ hθ
    rwa [show (n + 1 - 1 - R.val / 256) / 16 = (i 0).val - 1 + 1 by omega]
  · simp only [keep_out i hc3 M15 f15 v R (by omega)]
    have := hold R l θ hθ
    rwa [show (n + 1 - 1 - R.val / 256) / 16 = (n - 1 - R.val / 256) / 16 by omega]

variable (m : (ℓ : Loc nD τ sig) → Buf (Elt Ideal) ℓ)

/-- The blocks the pipeline reads, at real entries. -/
structure Blocks (a : Args) (c : Dev nD) : Prop where
  x : ∀ (t : Fin cfg0.N) (r : Fin 256) k, t.val < 16 → (iblk m c 0 t : S256x768.Idx → EReal) (ix2 r k) = a.X (256 * (t.val % 16) + r.val) k
  w1 : ∀ (t : Fin cfg0.N) j k, (iblk m c 1 t : S768x1536.Idx → EReal) (ix2 j k) = a.W1 j k
  b1 : ∀ (t : Fin cfg0.N) k, (iblk m c 2 t : S1x1536.Idx → EReal) (ix2 0 k) = a.B1 k
  w2 : ∀ (t : Fin cfg0.N) j k, (iblk m c 3 t : S1536x768.Idx → EReal) (ix2 j k) = a.W2 j k
  b2 : ∀ (t : Fin cfg0.N) k, (iblk m c 4 t : S1x768.Idx → EReal) (ix2 0 k) = a.B2 k
  g : ∀ (t : Fin cfg0.N) k, (iblk m c 5 t : S1x768.Idx → EReal) (ix2 0 k) = (a.G k : EReal)
  be : ∀ (t : Fin cfg0.N) k, (iblk m c 6 t : S1x768.Idx → EReal) (ix2 0 k) = (a.Be k : EReal)
  p : ∀ (t : Fin cfg0.N) (j : Fin 4096) k, 16 ≤ t.val → (iblk m c 7 t : S4096x768.Idx → EReal) (ix2 j k) = (a.P (4096 * (t.val / 16 - 1) + j.val) k : EReal)

/-- What the five scratch buffers hold before a point. -/
structure Holds (a : Args) (n : ℕ) (c : Dev nD) (f11 : Bf (F := Ideal) c (Memref.whole cc0_scratch0)) (f12 : Bf (F := Ideal) c (Memref.whole cc0_scratch1))
    (f13 : Bf (F := Ideal) c (Memref.whole cc0_scratch2)) (f14 : Bf (F := Ideal) c (Memref.whole cc0_scratch3))
    (f15 : Bf (F := Ideal) c (Memref.whole cc0_scratch4)) : Prop where
  q : ∀ R : Fin 4096, R.val < 256 * n → ∀ k, (Memref.whole cc0_scratch0).view.read (Elt Ideal) f11 (ix2 R k) = ((-2 * a.Q R.val k : ℝ) : EReal)
  s : ∀ R : Fin 4096, R.val < 256 * n → ∀ e, (Memref.whole cc0_scratch1).view.read (Elt Ideal) f12 (ix2 R e) = (norm2 (a.Q R.val) : EReal)
  p : 17 ≤ n → ∀ (j : Fin 4096) k, (Memref.whole cc0_scratch2).view.read (Elt Ideal) f13 (ix2 j k) = (a.P (4096 * ((n - 1) / 16 - 1) + j.val) k : EReal)
  u : 17 ≤ n → ∀ (j : Fin 4096) e, (Memref.whole cc0_scratch3).view.read (Elt Ideal) f14 (ix2 e j) = (norm2 (a.P (4096 * ((n - 1) / 16 - 1) + j.val)) : EReal)
  v : ∀ R : Fin 4096, R.val < 256 * n → ∀ l, ∀ θ < ⊤, At (fun t => (Memref.whole cc0_scratch4).view.read (Elt Ideal) f15 (ix2 R (col t l))) θ
      (below a R.val l (32 * ((n - 1 - R.val / 256) / 16)) θ)

/-- What the scratch holds before a point. -/
def Inv (a : Args) (n : ℕ) (c : Dev nD) (S : Scr Ideal c) : Prop :=
  match S with
  | (f11, f12, f13, f14, f15) => Holds a n c f11 f12 f13 f14 f15

/-- Before the first point nothing is asked. -/
theorem Inv.zero (a : Args) (c : Dev nD) (S : Scr Ideal c) : Inv a 0 c S :=
  ⟨fun _ h => absurd h (by omega), fun _ h => absurd h (by omega), fun h => absurd h (by omega), fun h => absurd h (by omega),
    fun _ h => absurd h (by omega)⟩

/-- A property of a value, from an equation. -/
theorem of_value {α : Type} {x A : α} (h : x = A) (P : α → Prop) (hp : P A) : P x := h ▸ hp

/-- A property of a triple's components, from the triple's value. -/
theorem of_triple {α β γ : Type} {x : α × β × γ} {A : α} {B : β} {C : γ} (h : x = (A, B, C)) (P : α → β → γ → Prop) (hp : P A B C) :
    P x.1 x.2.1 x.2.2 := by
  subst h
  exact hp

/-- What a point of the first pass stores, row by row. -/
theorem stored {c : Dev nD} (a : Args) (i : grid0.Coords) (hc1 : k0_cond1 i = 1#1) {M11 : Memref sig .tc .vmem S4096x768 .bf16}
    {M12 : Memref sig .tc .vmem S4096x8 .f32} {M15 : Memref sig .tc .vmem S4096x640 .f32} {f11 : Bf (F := Ideal) c M11} {f12 : Bf (F := Ideal) c M12}
    {f15 : Bf (F := Ideal) c M15} {Qv : Vec Ideal S256x768 .f32} (hsc : S256x640.ShapeCasts S256x640) (n : ℕ) (h16 : n < 16) (hn : n = (i 1).val)
    (hQ : ∀ (R : ℕ) (r : Fin 256), R = 256 * n + r.val → ∀ k, Qv (ix2 r k) = (a.Q R k : EReal))
    (hq : ∀ R : Fin 4096, R.val < 256 * n → ∀ k, M11.view.read (Elt Ideal) f11 (ix2 R k) = ((-2 * a.Q R.val k : ℝ) : EReal))
    (hs : ∀ R : Fin 4096, R.val < 256 * n → ∀ e, M12.view.read (Elt Ideal) f12 (ix2 R e) = (norm2 (a.Q R.val) : EReal))
    (hv : ∀ R : Fin 4096, R.val < 256 * n → ∀ l, ∀ θ < ⊤, At (fun t => M15.view.read (Elt Ideal) f15 (ix2 R (col t l))) θ
      (below a R.val l (32 * ((n - 1 - R.val / 256) / 16)) θ)) (R : Fin 4096) (hR : R.val < 256 * (n + 1)) :
    (∀ k, M11.view.read (Elt Ideal) (M11.view.writes (Elt Ideal) f11 [⟨Rect.unit (s := S4096x768) (k0_off1 i) S256x768.size (k0_off1_inb i hc1),
        storeQ Qv⟩]) (ix2 R k) = ((-2 * a.Q R.val k : ℝ) : EReal)) ∧
      (∀ e, M12.view.read (Elt Ideal) (M12.view.writes (Elt Ideal) f12 [⟨Rect.unit (s := S4096x8) (k0_off2 i) S256x8.size (k0_off2_inb i hc1),
        storeN Qv⟩]) (ix2 R e) = (norm2 (a.Q R.val) : EReal)) ∧
      ∀ l, ∀ θ < ⊤, At (fun t => M15.view.read (Elt Ideal) (M15.view.writes (Elt Ideal) f15
          [⟨Rect.unit (s := S4096x640) (k0_off3 i) S256x640.size (k0_off3_inb i hc1),
            shapeCast S256x640 (broadcast S256x640 (FloatOps.ofBits (F := Ideal) .f32 0x7F800000#32)) hsc⟩]) (ix2 R (col t l))) θ
        (below a R.val l (32 * ((n + 1 - 1 - R.val / 256) / 16)) θ) := by
  by_cases hold : R.val < 256 * n
  · have hlt : R.val < 256 * (i 1).val := hn ▸ hold
    refine ⟨fun k => ?_, fun e => ?_, fun l θ hθ => ?_⟩
    · refine (View.read_writes_cons_rows_of_not_mem M11.view f11 _ _ [] (ix2 R k) (k0_off1_eq _) rfl (Or.inl hlt)).trans ?_
      exact hq R hold k
    · refine (View.read_writes_cons_rows_of_not_mem M12.view f12 _ _ [] (ix2 R e) (k0_off2_eq _) rfl (Or.inl hlt)).trans ?_
      exact hs R hold e
    · have := hv R hold l θ hθ
      rw [show (n + 1 - 1 - R.val / 256) / 16 = (n - 1 - R.val / 256) / 16 by omega]
      refine Eq.mp (congrArg (At · θ _) (funext fun u => ?_)) this
      refine Eq.symm ?_
      refine (View.read_writes_cons_rows_of_not_mem M15.view f15 _ _ [] (ix2 R (col u l)) (k0_off3_eq _) rfl (Or.inl hlt)).trans ?_
      rfl
  · obtain ⟨r, hr⟩ : ∃ r : Fin 256, R.val = 256 * n + r.val := ⟨⟨R.val - 256 * n, by omega⟩, by
      show R.val = 256 * n + (R.val - 256 * n)
      omega⟩
    have hr' : R.val = 256 * (i 1).val + r.val := hn ▸ hr
    refine ⟨fun k => ?_, fun e => ?_, fun l θ hθ => ?_⟩
    · refine (View.read_writes_cons_rows_of_mem M11.view f11 _ _ [] (ix2 R k) (ix2 r k) (k0_off1_eq _) hr' rfl).trans ?_
      exact storeQ_real (hQ R.val r hr) k
    · refine (View.read_writes_cons_rows_of_mem M12.view f12 _ _ [] (ix2 R e) (ix2 r e) (k0_off2_eq _) hr' rfl).trans ?_
      exact storeN_real (hQ R.val r hr) e
    · rw [show (n + 1 - 1 - R.val / 256) / 16 = 0 by have := r.isLt; omega]
      intro u
      have e : shapeCast S256x640 (broadcast S256x640 (FloatOps.ofBits (F := Ideal) .f32 0x7F800000#32) : Vec Ideal S256x640 .f32) hsc (ix2 r (col u l)) = ⊤ := by
        pointwise []
        exact bits_top
      have last : ∀ z : EReal, z = ⊤ → (z ≤ θ ↔ u.val < below a R.val l (32 * 0) θ) := by
        rintro _ rfl
        exact ⟨fun hle => absurd (lt_of_le_of_lt hle hθ) (lt_irrefl _), fun hlt => absurd hlt (by simp [below])⟩
      exact last _ ((View.read_writes_cons_rows_of_mem M15.view f15 _ _ [] (ix2 R (col u l)) (ix2 r (col u l)) (k0_off3_eq _) hr' rfl).trans e)

variable {m}

/-- What a point of the first pass stores meets the invariant. -/
theorem Holds.store {a : Args} {c : Dev nD} (i : grid0.Coords) (hc1 : k0_cond1 i = 1#1) (n : ℕ) (h16 : n < 16) (hn : n = (i 1).val)
    {f11 : Bf (F := Ideal) c (Memref.whole cc0_scratch0)} {f12 : Bf (F := Ideal) c (Memref.whole cc0_scratch1)}
    {f13 : Bf (F := Ideal) c (Memref.whole cc0_scratch2)} {f14 : Bf (F := Ideal) c (Memref.whole cc0_scratch3)}
    {f15 : Bf (F := Ideal) c (Memref.whole cc0_scratch4)}
    (h : Holds a n c f11 f12 f13 f14 f15) {Qv : Vec Ideal S256x768 .f32} (hsc : S256x640.ShapeCasts S256x640)
    (hQ : ∀ (R : ℕ) (r : Fin 256), R = 256 * n + r.val → ∀ k, Qv (ix2 r k) = (a.Q R k : EReal)) :
    Holds a (n + 1) c
      ((Memref.whole cc0_scratch0).view.writes (Elt Ideal) f11 [⟨Rect.unit (s := S4096x768) (k0_off1 i) S256x768.size (k0_off1_inb i hc1), storeQ Qv⟩])
      ((Memref.whole cc0_scratch1).view.writes (Elt Ideal) f12 [⟨Rect.unit (s := S4096x8) (k0_off2 i) S256x8.size (k0_off2_inb i hc1), storeN Qv⟩])
      f13 f14
      ((Memref.whole cc0_scratch4).view.writes (Elt Ideal) f15 [⟨Rect.unit (s := S4096x640) (k0_off3 i) S256x640.size (k0_off3_inb i hc1),
            shapeCast S256x640 (broadcast S256x640 (FloatOps.ofBits (F := Ideal) .f32 0x7F800000#32)) hsc⟩]) := by
  have key := stored a i hc1 hsc n h16 hn hQ h.q h.s h.v
  exact ⟨fun R hR => (key R hR).1, fun R hR => (key R hR).2.1, fun h17 => absurd h17 (by omega), fun h17 => absurd h17 (by omega),
    fun R hR => (key R hR).2.2⟩

set_option maxHeartbeats 1000000 in
/-- A point of the first pass keeps the invariant. -/
theorem Inv.mlp {a : Args} {c : Dev nD} (B : Blocks m a c) (t : Fin cfg0.N) (ht : t.val < 16) (f10 : Bf (F := Ideal) c (win0_8.stage (cfg0.slots t 8)))
    (S : Scr Ideal c) (h : Inv a t.val c S) : Inv a (t.val + 1) c (step m c t f10 S).2 := by
  obtain ⟨f11, f12, f13, f14, f15⟩ := S
  have hc1 := (pass0 t).2 ht
  have hb : t.val = (grid0.coords t 1).val := by rw [block_eq]; omega
  unfold step
  rw [stepG_mlp (hc1 := hc1) (hc2 := not2_of1 hc1) (hc3 := not3_of1 hc1)]
  have hQ : ∀ (R : ℕ) (r : Fin 256), R = 256 * t.val + r.val → ∀ k,
      mlpQ c (win0_0.stage (cfg0.slots t 0)) (win0_1.stage (cfg0.slots t 1)) (win0_2.stage (cfg0.slots t 2)) (win0_3.stage (cfg0.slots t 3))
        (win0_4.stage (cfg0.slots t 4)) (win0_5.stage (cfg0.slots t 5)) (win0_6.stage (cfg0.slots t 6))
        ((hs0 t).unread (iblk m c 0 t)) ((hs1 t).unread (iblk m c 1 t)) ((hs2 t).unread (iblk m c 2 t)) ((hs3 t).unread (iblk m c 3 t))
        ((hs4 t).unread (iblk m c 4 t)) ((hs5 t).unread (iblk m c 5 t)) ((hs6 t).unread (iblk m c 6 t)) (ix2 r k) = (a.Q R k : EReal) := by
    intro R r hR
    refine mlpQ_at a R r (fun k => ?_) (fun j k => ?_) (fun k => ?_) (fun j k => ?_) (fun k => ?_) (fun k => ?_) (fun k => ?_)
    · rw [Memref.IsWhole.read_unread, hR, show 256 * t.val = 256 * (t.val % 16) by omega]; exact B.x t r k ht
    · rw [Memref.IsWhole.read_unread]; exact B.w1 t j k
    · rw [Memref.IsWhole.read_unread]; exact B.b1 t k
    · rw [Memref.IsWhole.read_unread]; exact B.w2 t j k
    · rw [Memref.IsWhole.read_unread]; exact B.b2 t k
    · rw [Memref.IsWhole.read_unread]; exact B.g t k
    · rw [Memref.IsWhole.read_unread]; exact B.be t k
  refine of_triple (runMlp_stores c (grid0.coords t) (hc1 := hc1) (hc2 := not2_of1 hc1) (hc3 := not3_of1 hc1) ..)
    (fun A B C => Holds a (t.val + 1) c A B f13 f14 C) ?_
  exact Holds.store (grid0.coords t) hc1 t.val ht hb h _ hQ

/-- What the scan of a tile keeps in a block of rows. -/
theorem scanned {a : Args} {c : Dev nD} (t : Fin cfg0.N) (h16 : 16 ≤ t.val) {f11 : Bf (F := Ideal) c (Memref.whole cc0_scratch0)} {f12 : Bf (F := Ideal) c (Memref.whole cc0_scratch1)}
    {e13 : Bf (F := Ideal) c (Memref.whole cc0_scratch2)} {e14 : Bf (F := Ideal) c (Memref.whole cc0_scratch3)}
    {f15 : Bf (F := Ideal) c (Memref.whole cc0_scratch4)} (h : Holds a t.val c f11 f12 e13 e14 f15)
    (f13 : Bf (F := Ideal) c (Memref.whole cc0_scratch2)) (f14 : Bf (F := Ideal) c (Memref.whole cc0_scratch3))
    (hp : ∀ (j : Fin 4096) k, (Memref.whole cc0_scratch2).view.read (Elt Ideal) f13 (ix2 j k) = (a.P (4096 * (t.val / 16 - 1) + j.val) k : EReal))
    (hu : ∀ (j : Fin 4096) e, (Memref.whole cc0_scratch3).view.read (Elt Ideal) f14 (ix2 e j) = (norm2 (a.P (4096 * (t.val / 16 - 1) + j.val)) : EReal))
    (hc3 : k0_cond3 (grid0.coords t) = 1#1) (R : Fin 4096) (r : Fin 256) (hR : R.val = 256 * (grid0.coords t 1).val + r.val) (l : Fin 128)
    (θ : EReal) (hθ : θ < ⊤) :
    At (fun u => scanPick c (grid0.coords t) hc3 (Memref.whole cc0_scratch0) (Memref.whole cc0_scratch2) (Memref.whole cc0_scratch3)
      (Memref.whole cc0_scratch4) f11 f13 f14 f15 u (ix2 r l)) θ (below a R.val l (32 * ((grid0.coords t 0).val - 1 + 1)) θ) := by
  have hlt : R.val < 256 * t.val := by have := R.isLt; omega
  have hv := h.v R hlt l θ hθ
  have hb := block_eq t
  have hr := r.isLt
  rw [pass_eq]
  refine scanPick_at a _ hc3 (t.val / 16 - 1) R r hR l θ (h.q R hlt) hp hu ?_
  rwa [show (t.val - 1 - R.val / 256) / 16 = t.val / 16 - 1 by omega] at hv

/-- A point that scans a tile already stored keeps the invariant. -/
theorem Holds.scan {a : Args} {c : Dev nD} (t : Fin cfg0.N) (h16 : 16 ≤ t.val) {f11 : Bf (F := Ideal) c (Memref.whole cc0_scratch0)} {f12 : Bf (F := Ideal) c (Memref.whole cc0_scratch1)}
    {e13 : Bf (F := Ideal) c (Memref.whole cc0_scratch2)} {e14 : Bf (F := Ideal) c (Memref.whole cc0_scratch3)}
    {f15 : Bf (F := Ideal) c (Memref.whole cc0_scratch4)} (h : Holds a t.val c f11 f12 e13 e14 f15)
    (f13 : Bf (F := Ideal) c (Memref.whole cc0_scratch2)) (f14 : Bf (F := Ideal) c (Memref.whole cc0_scratch3))
    (g13 : Bf (F := Ideal) c (Memref.whole cc0_scratch2)) (g14 : Bf (F := Ideal) c (Memref.whole cc0_scratch3))
    (hp : ∀ (j : Fin 4096) k, (Memref.whole cc0_scratch2).view.read (Elt Ideal) f13 (ix2 j k) = (a.P (4096 * (t.val / 16 - 1) + j.val) k : EReal))
    (hu : ∀ (j : Fin 4096) e, (Memref.whole cc0_scratch3).view.read (Elt Ideal) f14 (ix2 e j) = (norm2 (a.P (4096 * (t.val / 16 - 1) + j.val)) : EReal))
    (hp' : ∀ (j : Fin 4096) k, (Memref.whole cc0_scratch2).view.read (Elt Ideal) g13 (ix2 j k) = (a.P (4096 * (t.val / 16 - 1) + j.val) k : EReal))
    (hu' : ∀ (j : Fin 4096) e, (Memref.whole cc0_scratch3).view.read (Elt Ideal) g14 (ix2 e j) = (norm2 (a.P (4096 * (t.val / 16 - 1) + j.val)) : EReal))
    (hc3 : k0_cond3 (grid0.coords t) = 1#1) :
    Holds a (t.val + 1) c f11 f12 g13 g14 ((Memref.whole cc0_scratch4).view.writes (Elt Ideal) f15
      (keep (grid0.coords t) hc3 (scanPick c (grid0.coords t) hc3 (Memref.whole cc0_scratch0) (Memref.whole cc0_scratch2) (Memref.whole cc0_scratch3)
        (Memref.whole cc0_scratch4) f11 f13 f14 f15))) := by
  have hall : ∀ R : Fin 4096, R.val < 256 * t.val := fun R => by have := R.isLt; omega
  refine ⟨fun R _ => h.q R (hall R), fun R _ => h.s R (hall R), fun _ => ?_, fun _ => ?_, fun R _ l θ hθ => ?_⟩
  · rw [Nat.add_sub_cancel]; exact hp'
  · rw [Nat.add_sub_cancel]; exact hu'
  · refine merged a (grid0.coords t) hc3 t.val h16 (by rw [pass_eq, block_eq]; omega) (fun R => h.v R (hall R)) ?_ R l θ hθ
    intro R r hR l θ hθ
    exact scanned t h16 h f13 f14 hp hu hc3 R r hR l θ hθ

/-- The score a point of the last pass stores. -/
theorem Holds.score {a : Args} {c : Dev nD} (t : Fin cfg0.N) (h64 : 64 ≤ t.val) {f11 : Bf (F := Ideal) c (Memref.whole cc0_scratch0)} {f12 : Bf (F := Ideal) c (Memref.whole cc0_scratch1)}
    {e13 : Bf (F := Ideal) c (Memref.whole cc0_scratch2)} {e14 : Bf (F := Ideal) c (Memref.whole cc0_scratch3)}
    {f15 : Bf (F := Ideal) c (Memref.whole cc0_scratch4)} (h : Holds a t.val c f11 f12 e13 e14 f15)
    (f10 : Bf (F := Ideal) c (win0_8.stage (cfg0.slots t 8)))
    (f13 : Bf (F := Ideal) c (Memref.whole cc0_scratch2)) (f14 : Bf (F := Ideal) c (Memref.whole cc0_scratch3))
    (hp : ∀ (j : Fin 4096) k, (Memref.whole cc0_scratch2).view.read (Elt Ideal) f13 (ix2 j k) = (a.P (4096 * (t.val / 16 - 1) + j.val) k : EReal))
    (hu : ∀ (j : Fin 4096) e, (Memref.whole cc0_scratch3).view.read (Elt Ideal) f14 (ix2 e j) = (norm2 (a.P (4096 * (t.val / 16 - 1) + j.val)) : EReal))
    (hc3 : k0_cond3 (grid0.coords t) = 1#1) (hc4 : k0_cond4 (grid0.coords t) = 1#1) (S5 : ℕ → Fin 5 → ℝ)
    (hS : ∀ R < 4096, ∀ θ < ⊤, At (fun t => ((S5 R t : ℝ) : EReal)) θ (∑ j ∈ Finset.range 16384, if ((a.dist R j : ℝ) : EReal) ≤ θ then 1 else 0))
    (r : Fin 256) (e : Fin 8) :
    (win0_8.stage (cfg0.slots t 8)).view.read (Elt Ideal) ((win0_8.stage (cfg0.slots t 8)).view.writes (Elt Ideal) f10
      (scoreW c (grid0.coords t) (Memref.whole cc0_scratch1) hc3 hc4 (scanPick c (grid0.coords t) hc3 (Memref.whole cc0_scratch0)
        (Memref.whole cc0_scratch2) (Memref.whole cc0_scratch3) (Memref.whole cc0_scratch4) f11 f13 f14 f15) f12)) (ix2 r e)
      = (a.score (256 * (t.val % 16) + r.val) (S5 (256 * (t.val % 16) + r.val)) : EReal) := by
  have hr := r.isLt
  have hlt : 256 * (t.val % 16) + r.val < 4096 := by omega
  have hR : (⟨256 * (t.val % 16) + r.val, hlt⟩ : Fin 4096).val = 256 * (grid0.coords t 1).val + r.val := by rw [block_eq]
  refine scoreW_at a (grid0.coords t) hc3 hc4 ⟨256 * (t.val % 16) + r.val, hlt⟩ r hR (h.s _ (by show 256 * (t.val % 16) + r.val < _; omega)) ?_ (hS _ hlt) e
  intro θ hθ l
  have := scanned t (by omega) h f13 f14 hp hu hc3 _ r hR l θ hθ
  have e128 : 32 * ((grid0.coords t 0).val - 1 + 1) = 128 := by
    have : t.val < 80 := t.isLt
    rw [pass_eq]; omega
  rwa [e128] at this

set_option maxHeartbeats 1000000 in
/-- Every point keeps the invariant, and the last pass stores the scores. -/
theorem Inv.step {a : Args} {c : Dev nD} (B : Blocks m a c) (t : Fin cfg0.N) (f10 : Bf (F := Ideal) c (win0_8.stage (cfg0.slots t 8)))
    (S : Scr Ideal c) (h : Inv a t.val c S) (S5 : ℕ → Fin 5 → ℝ)
    (hS : ∀ R < 4096, ∀ θ < ⊤, At (fun t => ((S5 R t : ℝ) : EReal)) θ (∑ j ∈ Finset.range 16384, if ((a.dist R j : ℝ) : EReal) ≤ θ then 1 else 0)) :
    Inv a (t.val + 1) c (step m c t f10 S).2 ∧ (64 ≤ t.val → ∀ (r : Fin 256) (e : Fin 8),
      (win0_8.stage (cfg0.slots t 8)).view.read (Elt Ideal) (Hand.step m c t f10 S).1 (ix2 r e)
        = (a.score (256 * (t.val % 16) + r.val) (S5 (256 * (t.val % 16) + r.val)) : EReal)) := by
  by_cases ht : t.val < 16
  · exact ⟨h.mlp B t ht f10 S, fun h64 => absurd h64 (by omega)⟩
  have h16 : 16 ≤ t.val := not_lt.1 ht
  obtain ⟨f11, f12, f13, f14, f15⟩ := S
  replace h : Holds a t.val c f11 f12 f13 f14 f15 := h
  have hc1 : k0_cond1 (grid0.coords t) ≠ 1#1 := fun e => ht ((pass0 t).1 e)
  have hc3 := is3_of_not1 hc1
  by_cases h0 : t.val % 16 = 0
  · have hc2 := (first t).2 ⟨h16, h0⟩
    have hx : ∀ j k, rowsAt c (win0_7.stage (cfg0.slots t 7)) ((hs7 t).unread (iblk m c 7 t)) (ix2 j k)
        = (a.P (4096 * (t.val / 16 - 1) + j.val) k : EReal) := by
      intro j k
      rw [rowsAt_at, Memref.IsWhole.read_unread]
      exact B.p t j k h16
    have hp := fun f j k => (tileW_at (c := c) (Memref.whole cc0_scratch2) f (rowsAt c (win0_7.stage (cfg0.slots t 7)) ((hs7 t).unread (iblk m c 7 t))) j k).trans (hx j k)
    have hu := fun f j e => normW_at (c := c) (Memref.whole cc0_scratch3) f (x := rowsAt c (win0_7.stage (cfg0.slots t 7)) ((hs7 t).unread (iblk m c 7 t))) (j := j) (hx j) e
    by_cases h64 : 64 ≤ t.val
    · have hc4 := (pass4 t).2 h64
      unfold Hand.step
      rw [stepG_tileEnd (hc1 := hc1) (hc2 := hc2) (hc3 := hc3) (hc4 := hc4), runTileEnd_score, tilePick_eq]
      refine ⟨of_triple (runTileEnd_tile c (grid0.coords t) (hc1 := hc1) (hc2 := hc2) (hc3 := hc3) (hc4 := hc4) ..)
        (fun A B C => Holds a (t.val + 1) c f11 f12 A B C) ?_, ?_⟩
      · rw [tilePick_eq]
        exact h.scan t h16 _ _ _ _ (hp _) (hu _) (hp _) (hu _) hc3
      exact fun _ r e => h.score t h64 f10 _ _ (hp _) (hu _) hc3 hc4 S5 hS r e
    · have hc4 : k0_cond4 (grid0.coords t) ≠ 1#1 := fun e => h64 ((pass4 t).1 e)
      unfold Hand.step
      rw [stepG_tile (hc1 := hc1) (hc2 := hc2) (hc3 := hc3) (hc4 := hc4)]
      refine ⟨of_triple (runTile_tile c (grid0.coords t) (hc1 := hc1) (hc2 := hc2) (hc3 := hc3) (hc4 := hc4) ..)
        (fun A B C => Holds a (t.val + 1) c f11 f12 A B C) ?_, fun e => absurd e h64⟩
      rw [tilePick_eq]
      exact h.scan t h16 _ _ _ _ (hp _) (hu _) (hp _) (hu _) hc3
  · have hc2 : cond2 (grid0.coords t) ≠ 1#1 := fun e => h0 ((first t).1 e).2
    have hp := h.p (by omega)
    have hu := h.u (by omega)
    rw [show (t.val - 1) / 16 - 1 = t.val / 16 - 1 by omega] at hp hu
    by_cases h64 : 64 ≤ t.val
    · have hc4 := (pass4 t).2 h64
      unfold Hand.step
      rw [stepG_scanEnd (hc1 := hc1) (hc2 := hc2) (hc3 := hc3) (hc4 := hc4), runScanEnd_score]
      exact ⟨of_value (runScanEnd_keep c (grid0.coords t) (hc1 := hc1) (hc2 := hc2) (hc3 := hc3) (hc4 := hc4) ..)
        (fun A => Holds a (t.val + 1) c f11 f12 f13 f14 A) (h.scan t h16 _ _ _ _ hp hu hp hu hc3), fun _ r e => h.score t h64 f10 _ _ hp hu hc3 hc4 S5 hS r e⟩
    · have hc4 : k0_cond4 (grid0.coords t) ≠ 1#1 := fun e => h64 ((pass4 t).1 e)
      unfold Hand.step
      rw [stepG_scan (hc1 := hc1) (hc2 := hc2) (hc3 := hc3) (hc4 := hc4)]
      exact ⟨of_value (runScan_keep c (grid0.coords t) (hc1 := hc1) (hc2 := hc2) (hc3 := hc3) (hc4 := hc4) ..)
        (fun A => Holds a (t.val + 1) c f11 f12 f13 f14 A) (h.scan t h16 _ _ _ _ hp hu hp hu hc3), fun e => absurd e h64⟩

end Cert.KernelIdeal.Hand

end
-- ==== Proof.Out.lean ====
module

public import proofs.«01_k».proof.Proof.Keeps

@[expose] public section

set_option maxRecDepth 16384

noncomputable section

namespace Cert.KernelIdeal.Hand

open Cert.KernelIdeal Cert.KernelIdeal.Gen Cert.Smallest Cert.Nearest
open Idealize.ShloMosaic Idealize.ShloMosaic.TcCoe
open Idealize.SL Idealize.SL.Sem

variable (m : (ℓ : Loc nD τ sig) → Buf (Elt Ideal) ℓ)

/-- The arguments' entries; of the scale, the shift and the stored rows, they are reals. -/
structure Entries (a : Args) (c : Dev nD) : Prop where
  x : ∀ (b : Fin 2) (s : Fin 2048) k, (m ((c.tc : Thread nD τ).loc main_arg0) : S2x2048x768.Idx → EReal) (ix3 b s k) = a.X (2048 * b.val + s.val) k
  w1 : ∀ j k, (m ((c.tc : Thread nD τ).loc main_arg1) : S768x1536.Idx → EReal) (ix2 j k) = a.W1 j k
  b1 : ∀ k, (m ((c.tc : Thread nD τ).loc main_arg2) : S1536.Idx → EReal) (ix1 k) = a.B1 k
  w2 : ∀ j k, (m ((c.tc : Thread nD τ).loc main_arg3) : S1536x768.Idx → EReal) (ix2 j k) = a.W2 j k
  b2 : ∀ k, (m ((c.tc : Thread nD τ).loc main_arg4) : S768.Idx → EReal) (ix1 k) = a.B2 k
  g : ∀ k, (m ((c.tc : Thread nD τ).loc main_arg5) : S768.Idx → EReal) (ix1 k) = (a.G k : EReal)
  be : ∀ k, (m ((c.tc : Thread nD τ).loc main_arg6) : S768.Idx → EReal) (ix1 k) = (a.Be k : EReal)
  p : ∀ (j : Fin 16384) k, (m ((c.tc : Thread nD τ).loc main_arg7) : S16384x768.Idx → EReal) (ix2 j k) = (a.P j.val k : EReal)

/-- The block of the first window. -/
theorem index0 : ∀ (t : Fin cfg0.N) (a : Fin 2), win0_0.index t a = if a = 0 then (if t.val < 16 then t.val % 16 else 0) else 0 := by decide +kernel
/-- The block of the memory's window. -/
theorem index7 : ∀ (t : Fin cfg0.N) (a : Fin 2), win0_7.index t a = if a = 0 then t.val / 16 - 1 else 0 := by decide +kernel
/-- The block of the result's window. -/
theorem index8 : ∀ (t : Fin cfg0.N) (a : Fin 2), win0_8.index t a = if a = 0 then t.val % 16 else 0 := by decide +kernel
/-- The windows of the weights take their arrays whole. -/
theorem index1 : ∀ (t : Fin cfg0.N) (a : Fin 2), win0_1.index t a = 0 ∧ win0_2.index t a = 0 ∧ win0_3.index t a = 0 ∧ win0_4.index t a = 0
    ∧ win0_5.index t a = 0 ∧ win0_6.index t a = 0 := by decide +kernel

/-- A list cast to one row, read at a position. -/
theorem row_cast {n : ℕ} (x : (⟨1, ![n]⟩ : Shape).Idx → EReal) (h : (⟨1, ![n]⟩ : Shape).ShapeCasts ⟨2, ![1, n]⟩) (k : Fin n) :
    shapeCast ⟨2, ![1, n]⟩ x h (ix2 0 k) = x (ix1 k) :=
  shapeCast_apply x h _ _ (by
    rw [Shape.rowMajor_val_two, Shape.rowMajor_val_one]
    show k.val = 0 * n + k.val
    omega)

/-- The arrays of the first seven windows, from the arguments. -/
theorem V_arrays (c : Dev nD) :
    (V m c main_v0 : S4096x768.Idx → EReal)
      = shapeCast S4096x768 (m ((c.tc : Thread nD τ).loc main_arg0) : S2x2048x768.Idx → EReal) shapeCasts_S2x2048x768_S4096x768
    ∧ (V m c main_v1 : S768x1536.Idx → EReal) = (m ((c.tc : Thread nD τ).loc main_arg1) : S768x1536.Idx → EReal)
    ∧ (V m c main_v2 : S1x1536.Idx → EReal)
      = shapeCast S1x1536 (m ((c.tc : Thread nD τ).loc main_arg2) : S1536.Idx → EReal) shapeCasts_S1536_S1x1536
    ∧ (V m c main_v3 : S1536x768.Idx → EReal) = (m ((c.tc : Thread nD τ).loc main_arg3) : S1536x768.Idx → EReal)
    ∧ (V m c main_v4 : S1x768.Idx → EReal)
      = shapeCast S1x768 (m ((c.tc : Thread nD τ).loc main_arg4) : S768.Idx → EReal) shapeCasts_S768_S1x768
    ∧ (V m c main_v5 : S1x768.Idx → EReal)
      = shapeCast S1x768 (m ((c.tc : Thread nD τ).loc main_arg5) : S768.Idx → EReal) shapeCasts_S768_S1x768
    ∧ (V m c main_v6 : S1x768.Idx → EReal)
      = shapeCast S1x768 (m ((c.tc : Thread nD τ).loc main_arg6) : S768.Idx → EReal) shapeCasts_S768_S1x768 := by
  refine ⟨?_, ?_, ?_, ?_, ?_, ?_, ?_⟩
  all_goals
    show StableHlo.after _ _ _ = _
    simp only [hostOps0, List.flatten_cons, List.flatten_nil, List.append_nil, List.cons_append, List.nil_append]
    after_results
    rfl

/-- The blocks the pipeline reads have the arguments' entries. -/
theorem Entries.blocks {m} {a : Args} {c : Dev nD} (E : Entries m a c) : Blocks m a c where
  x t r k h := by
    have hr : 256 * (t.val % 16) + r.val < 4096 := by omega
    have e : (win0_0.rect t).emb (ix2 r k) = (ix2 (⟨256 * (t.val % 16) + r.val, hr⟩ : Fin 4096) k : S4096x768.Idx) := by
      funext d; apply Fin.ext; rw [Pipeline.Window.rect_emb_val win0_0 t, index0]
      fin_cases d
      · show (if (0 : Fin 2) = 0 then (if t.val < 16 then t.val % 16 else 0) else 0) * 256 + r.val = 256 * (t.val % 16) + r.val
        rw [if_pos rfl, if_pos h]; omega
      · show (if (1 : Fin 2) = 0 then (if t.val < 16 then t.val % 16 else 0) else 0) * 768 + k.val = k.val
        rw [if_neg (by decide)]; omega
    show (V m c main_v0 : S4096x768.Idx → EReal) ((win0_0.rect t).emb (ix2 r k)) = _
    rw [e, (V_arrays m c).1, shapeCast_apply _ _ _ (ix3 (⟨(256 * (t.val % 16) + r.val) / 2048, by omega⟩ : Fin 2)
      (⟨(256 * (t.val % 16) + r.val) % 2048, by omega⟩ : Fin 2048) k), E.x]
    · congr 1
      show 2048 * ((256 * (t.val % 16) + r.val) / 2048) + (256 * (t.val % 16) + r.val) % 2048 = _
      omega
    · rw [Shape.rowMajor_val_three, Shape.rowMajor_val_two]
      show (((256 * (t.val % 16) + r.val) / 2048) * 2048 + (256 * (t.val % 16) + r.val) % 2048) * 768 + k.val = (256 * (t.val % 16) + r.val) * 768 + k.val
      omega
  w1 t j k := by
    have e : (win0_1.rect t).emb (ix2 j k) = (ix2 j k : S768x1536.Idx) := by
      funext d; exact Fin.ext (Pipeline.Window.rect_emb_val_of_index_zero _ t d (index1 t d).1 _)
    show (V m c main_v1 : S768x1536.Idx → EReal) ((win0_1.rect t).emb (ix2 j k)) = _
    rw [e, (V_arrays m c).2.1, E.w1]
  b1 t k := by
    have e : (win0_2.rect t).emb (ix2 0 k) = (ix2 0 k : S1x1536.Idx) := by
      funext d; exact Fin.ext (Pipeline.Window.rect_emb_val_of_index_zero _ t d (index1 t d).2.1 _)
    show (V m c main_v2 : S1x1536.Idx → EReal) ((win0_2.rect t).emb (ix2 0 k)) = _
    rw [e, (V_arrays m c).2.2.1, row_cast, E.b1]
  w2 t j k := by
    have e : (win0_3.rect t).emb (ix2 j k) = (ix2 j k : S1536x768.Idx) := by
      funext d; exact Fin.ext (Pipeline.Window.rect_emb_val_of_index_zero _ t d (index1 t d).2.2.1 _)
    show (V m c main_v3 : S1536x768.Idx → EReal) ((win0_3.rect t).emb (ix2 j k)) = _
    rw [e, (V_arrays m c).2.2.2.1, E.w2]
  b2 t k := by
    have e : (win0_4.rect t).emb (ix2 0 k) = (ix2 0 k : S1x768.Idx) := by
      funext d; exact Fin.ext (Pipeline.Window.rect_emb_val_of_index_zero _ t d (index1 t d).2.2.2.1 _)
    show (V m c main_v4 : S1x768.Idx → EReal) ((win0_4.rect t).emb (ix2 0 k)) = _
    rw [e, (V_arrays m c).2.2.2.2.1, row_cast, E.b2]
  g t k := by
    have e : (win0_5.rect t).emb (ix2 0 k) = (ix2 0 k : S1x768.Idx) := by
      funext d; exact Fin.ext (Pipeline.Window.rect_emb_val_of_index_zero _ t d (index1 t d).2.2.2.2.1 _)
    show (V m c main_v5 : S1x768.Idx → EReal) ((win0_5.rect t).emb (ix2 0 k)) = _
    rw [e, (V_arrays m c).2.2.2.2.2.1, row_cast, E.g]
  be t k := by
    have e : (win0_6.rect t).emb (ix2 0 k) = (ix2 0 k : S1x768.Idx) := by
      funext d; exact Fin.ext (Pipeline.Window.rect_emb_val_of_index_zero _ t d (index1 t d).2.2.2.2.2 _)
    show (V m c main_v6 : S1x768.Idx → EReal) ((win0_6.rect t).emb (ix2 0 k)) = _
    rw [e, (V_arrays m c).2.2.2.2.2.2, row_cast, E.be]
  p t j k h := by
    have ht : t.val < 80 := t.isLt
    have hr : 4096 * (t.val / 16 - 1) + j.val < 16384 := by omega
    have e : (win0_7.rect t).emb (ix2 j k) = (ix2 (⟨4096 * (t.val / 16 - 1) + j.val, hr⟩ : Fin 16384) k : S16384x768.Idx) := by
      funext d; apply Fin.ext; rw [Pipeline.Window.rect_emb_val win0_7 t, index7]
      fin_cases d
      · show (if (0 : Fin 2) = 0 then t.val / 16 - 1 else 0) * 4096 + j.val = 4096 * (t.val / 16 - 1) + j.val
        rw [if_pos rfl]; omega
      · show (if (1 : Fin 2) = 0 then t.val / 16 - 1 else 0) * 768 + k.val = k.val
        rw [if_neg (by decide)]; omega
    show (V m c main_arg7 : S16384x768.Idx → EReal) ((win0_7.rect t).emb (ix2 j k)) = _
    rw [e, V_main_arg7, E.p]

/-- What a point of the last pass leaves in the result's block: the scores of its rows. -/
def Scores (a : Args) (S5 : ℕ → Fin 5 → ℝ) (t : Fin cfg0.N) (X : S256x8.Idx → Elt Ideal .f32) : Prop :=
  64 ≤ t.val → ∀ (r : Fin 256) e, (X (ix2 r e) : EReal) = (a.score (256 * (t.val % 16) + r.val) (S5 (256 * (t.val % 16) + r.val)) : EReal)

/-- The result's array after some write-backs: the rows of the last pass's points hold their scores. -/
theorem out_rows (a : Args) (S5 : ℕ → Fin 5 → ℝ) (J : ℕ → (c : Dev nD) → Scr Ideal c → Prop) (c : Dev nD)
    (R0 : Dev nD → (t : Fin cfg0.N) → (S256x8.Idx → Elt Ideal .f32) → Prop) (hR0 : ∀ t X, R0 c t X → Scores a S5 t X) :
    ∀ n, n ≤ 80 → ∀ G : Buf (Elt Ideal) ((cfg0.win 8).arr.view.loc (c.tc : Thread nD τ)), (rdat m J R0 c).ArrAt 8 n G →
      ∀ (R : Fin 4096) (e : Fin 8), 64 + R.val / 256 < n → (G : S4096x8.Idx → EReal) (ix2 R e) = (a.score R.val (S5 R.val) : EReal)
  | 0, _, _, _, _, _, h => absurd h (by omega)
  | n + 1, hn, G, hG, R, e, h => by
    have hn' : n < cfg0.N := hn
    have hs := ((rdat m J R0 c).ArrAt_succ 8 ⟨n, hn'⟩)
    rw [if_pos (flush0_8 _)] at hs
    obtain ⟨G0, X, h0, hX, rfl⟩ := (congrFun hs G).mp hG
    have hX' : Scores a S5 ⟨n, hn'⟩ X := hR0 _ _ <| (dat m J c).toRRel_leaves (fgt := fgt) (w := 8) (by decide) hX rfl
    have hR := R.isLt
    by_cases hin : R.val / 256 = n % 16
    · have e1 : (win0_8.rect ⟨n, hn'⟩).emb (ix2 (⟨R.val % 256, Nat.mod_lt _ (by norm_num)⟩ : Fin 256) e) = (ix2 R e : S4096x8.Idx) := by
        funext d; apply Fin.ext; rw [Pipeline.Window.rect_emb_val win0_8 ⟨n, hn'⟩, index8]
        fin_cases d
        · show (if (0 : Fin 2) = 0 then n % 16 else 0) * 256 + R.val % 256 = R.val
          rw [if_pos rfl]; omega
        · show (if (1 : Fin 2) = 0 then n % 16 else 0) * 8 + e.val = e.val
          rw [if_neg (by decide)]; omega
      have e2 := hX' (by show 64 ≤ n; omega) ⟨R.val % 256, Nat.mod_lt _ (by norm_num)⟩ e
      have e3 : 256 * (n % 16) + R.val % 256 = R.val := by omega
      rw [show 256 * ((⟨n, hn'⟩ : Fin cfg0.N).val % 16) + (⟨R.val % 256, Nat.mod_lt _ (by norm_num)⟩ : Fin 256).val = R.val from e3] at e2
      refine Eq.trans ?_ e2
      have e4 := congrFun (View.read_write_univ (v := ((cfg0.win 8).blk ⟨n, hn'⟩).view) G0 ((cfg0.win 8).cut (cfg0.grid.coords ⟨n, hn'⟩) X))
        (ix2 (⟨R.val % 256, Nat.mod_lt _ (by norm_num)⟩ : Fin 256) e)
      rw [← e1]
      exact e4
    · refine Eq.trans ?_ (out_rows a S5 J c R0 hR0 n (by omega) G0 h0 R e (by omega))
      refine View.write_of_not_mem _ _ _ ?_
      rw [View.setOn_univ]
      intro hmem
      obtain ⟨y, -, hy⟩ := Finset.mem_map.mp hmem
      have e5 := congrArg Fin.val (congrFun (show (win0_8.rect ⟨n, hn'⟩).emb y = (ix2 R e : S4096x8.Idx) from hy) 0)
      rw [Pipeline.Window.rect_emb_val win0_8 ⟨n, hn'⟩, index8, if_pos rfl] at e5
      have e6 : (y 0).val < 256 := (y 0).isLt
      have e7 : (n % 16) * 256 + (y 0).val = R.val := e5
      omega

/-- The result from the result's array: each row's first entry. -/
theorem result_at (c : Dev nD) (A : (w : Fin cfg0.W) → Buf (Elt Ideal) ((cfg0.win w).arr.view.loc (c.tc : Thread nD τ))) (b : Fin 2) (s : Fin 2048) :
    (StableHlo.after [hostOps1].flatten (Pipeline.withArrays spec0 c (V0 m c) A) (Proc.devRef .tc main_v10) : S2x2048.Idx → EReal) (ix2 b s)
      = (A 8 : S4096x8.Idx → EReal) (ix2 (⟨2048 * b.val + s.val, by omega⟩ : Fin 4096) 0) := by
  have e : (StableHlo.after [hostOps1].flatten (Pipeline.withArrays spec0 c (V0 m c) A) (Proc.devRef .tc main_v10) : S2x2048.Idx → EReal)
      = shapeCast S2x2048 (shapeCast S4096 (extractStridedSlice S4096x1 ![0, 0] (A 8 : S4096x8.Idx → EReal) slices_S4096x8_S4096x1_0_0)
          shapeCasts_S4096x1_S4096) shapeCasts_S4096_S2x2048 := by
    simp only [hostOps1, List.flatten_cons, List.flatten_nil, List.append_nil, List.cons_append, List.nil_append]
    after_results
    rw [show (Pipeline.withArrays spec0 c (V0 m c) A (Proc.devRef .tc main_v7)) = A 8 from
      Pipeline.withArrays_arr spec0 launch0.win.arr_inj c (V0 m c) A 8]
    rfl
  rw [e, shapeCast_apply _ _ _ (ix1 (⟨2048 * b.val + s.val, by omega⟩ : Fin 4096)),
    shapeCast_apply _ _ _ (ix2 (⟨2048 * b.val + s.val, by omega⟩ : Fin 4096) (0 : Fin 1))]
  · pointwise []
  · rw [Shape.rowMajor_val_one, Shape.rowMajor_val_two]
    show (2048 * b.val + s.val) * 1 + 0 = 2048 * b.val + s.val
    omega
  · rw [Shape.rowMajor_val_one, Shape.rowMajor_val_two]
    show 2048 * b.val + s.val = b.val * 2048 + s.val
    omega

/-- The program's result at a real scale, shift and stored rows: each row's score. -/
theorem run_scores (ρ : Dev nD → PrngReg) (a : Dev nD → Args) (hE : ∀ c, Entries m (a c) c) (S5 : Dev nD → ℕ → Fin 5 → ℝ)
    (hS : ∀ c, ∀ R < 4096, ∀ θ < ⊤, At (fun t => ((S5 c R t : ℝ) : EReal)) θ
      (∑ j ∈ Finset.range 16384, if (((a c).dist R j : ℝ) : EReal) ≤ θ then 1 else 0)) :
    θ_run defs (onTc (τ := τ) (main (F := Ideal))) ⟨m, fun _ => 0, ρ⟩ (fun r => ∀ c : Dev nD,
      (∀ (b : Fin 2) (s : Fin 2048), (r.2.mem ((c.tc : Thread nD τ).loc main_v10) : S2x2048.Idx → EReal) (ix2 b s)
        = ((a c).score (2048 * b.val + s.val) (S5 c (2048 * b.val + s.val)) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨fun b s => ?_, args_of m (fun n c S => Inv (a c) n c S) (fun c => Scores (a c) (S5 c)) r h.1 c⟩)
    (launch m ρ (fun n c S => Inv (a c) n c S) (fun c => Scores (a c) (S5 c)) (fun c S => Inv.zero (a c) c S)
      (fun c t f10 S hI => (Inv.step (hE c).blocks t f10 S hI (S5 c) (hS c)).1)
      (fun c t f10 S hI => (Inv.step (hE c).blocks t f10 S hI (S5 c) (hS c)).2))
  obtain ⟨hA, A, hA', hr⟩ := h.1 c
  have e := congrFun (hr main_v10 (Pipeline.mem_restRefs_of main_v10 (by decide) (by decide))) (ix2 b s)
  refine e.trans ((result_at m c A b s).trans ?_)
  exact out_rows m (a c) (S5 c) (fun n c S => Inv (a c) n c S) c (fun c => Scores (a c) (S5 c)) (fun _ _ h => h) 80 le_rfl (A 8) (hA' 8)
    ⟨2048 * b.val + s.val, by omega⟩ 0 (by show 64 + (2048 * b.val + s.val) / 256 < 80; omega)

end Cert.KernelIdeal.Hand

end
-- ==== Proof.Ref.lean ====
module

public import proofs.«01_k».proof.Proof.Spec
public import proofs.«01_k».proof.Proof.Gen.ReferenceIdeal.Run
public import Idealize.ShloMosaic.Lib.SortFacts

@[expose] public section

set_option maxRecDepth 8192

noncomputable section

namespace Cert.ReferenceIdeal.Hand

open Cert.ReferenceIdeal Cert.ReferenceIdeal.Gen Cert.Smallest Cert.Nearest
open Idealize.ShloMosaic Idealize.ShloMosaic.TcCoe Idealize.SL.Sem

/-- The two layers. -/
def feats (x : FVec Ideal S2x2048x768 .f32) (w1 : FVec Ideal S768x1536 .f32) (b1 : FVec Ideal S1536 .f32) (w2 : FVec Ideal S1536x768 .f32)
    (b2 : FVec Ideal S768 .f32) : FVec Ideal S2x2048x768 .f32 :=
  addf (Host.dotGeneral dot_S2x2048x1536_S1536x768_S2x2048x768_2_0_01_1_n_n none (maximumf (addf (Host.dotGeneral dot_S2x2048x768_S768x1536_S2x2048x1536_2_0_01_1_n_n none x w1) (broadcastInDim S2x2048x1536 ![0, 1, 2] bcast_S1x1x1536_S2x2048x1536_0_1_2 (broadcastInDim S1x1x1536 ![2] bcast_S1536_S1x1x1536_2 b1))) (broadcastInDim S2x2048x1536 ![] bcast_S_S2x2048x1536 (constant S_ .f32 0x00000000#32))) w2) (broadcastInDim S2x2048x768 ![0, 1, 2] bcast_S1x1x768_S2x2048x768_0_1_2 (broadcastInDim S1x1x768 ![2] bcast_S768_S1x1x768_2 b2))

/-- A row's sum. -/
def sums (f : FVec Ideal S2x2048x768 .f32) : FVec Ideal S2x2048x1 .f32 :=
  broadcastInDim S2x2048x1 ![0, 1] bcast_S2x2048_S2x2048x1_0_1 (Host.reduceAdd f (constant S_ .f32 0x00000000#32) reducesTo_S2x2048x768_S2x2048_d2 h_S_)

/-- A row less its mean. -/
def cents (f : FVec Ideal S2x2048x768 .f32) : FVec Ideal S2x2048x768 .f32 :=
  subf f (broadcastInDim S2x2048x768 ![0, 1, 2] bcast_S2x2048x1_S2x2048x768_0_1_2 (Host.divf (sums f) (broadcastInDim S2x2048x1 ![] bcast_S_S2x2048x1 (constant S_ .f32 0x44400000#32))))

/-- The variance. -/
def vars (f : FVec Ideal S2x2048x768 .f32) : FVec Ideal S2x2048x1 .f32 :=
  select (broadcastInDim S2x2048x1 ![] bcast_S_S2x2048x1 (cmpf .ogt (subf (constant S_ .f32 0x44400000#32) (sitofp .f32 (constantI S_ 32 0#32)) : FVec Ideal S_ .f32) (constant S_ .f32 0x00000000#32))) (Host.divf (sums (mulf (cents f) (cents f))) (broadcastInDim S2x2048x1 ![] bcast_S_S2x2048x1 (subf (constant S_ .f32 0x44400000#32) (sitofp .f32 (constantI S_ 32 0#32))))) (broadcastInDim S2x2048x1 ![] bcast_S_S2x2048x1 (id (constant S_ .f32 0x7FC00000#32)))

/-- The normalized rows. -/
def queries (f : FVec Ideal S2x2048x768 .f32) (g b : FVec Ideal S768 .f32) : FVec Ideal S2x2048x768 .f32 :=
  addf (mulf (Host.divf (cents f) (broadcastInDim S2x2048x768 ![0, 1, 2] bcast_S2x2048x1_S2x2048x768_0_1_2 (Host.sqrt (addf (vars f) (broadcastInDim S2x2048x1 ![] bcast_S_S2x2048x1 (constant S_ .f32 0x3727C5AC#32)))))) (broadcastInDim S2x2048x768 ![0, 1, 2] bcast_S1x1x768_S2x2048x768_0_1_2 (broadcastInDim S1x1x768 ![2] bcast_S768_S1x1x768_2 g))) (broadcastInDim S2x2048x768 ![0, 1, 2] bcast_S1x1x768_S2x2048x768_0_1_2 (broadcastInDim S1x1x768 ![2] bcast_S768_S1x1x768_2 b))

/-- The distances' negatives. -/
def negd (q : FVec Ideal S4096x768 .f32) (p : FVec Ideal S16384x768 .f32) : FVec Ideal S4096x16384 .f32 :=
  Host.negf (subf (addf (broadcastInDim S4096x16384 ![0, 1] bcast_S4096x1_S4096x16384_0_1 (broadcastInDim S4096x1 ![0] bcast_S4096_S4096x1_0 (Host.reduceAdd (mulf q q) (constant S_ .f32 0x00000000#32) reducesTo_S4096x768_S4096_d1 h_S_))) (broadcastInDim S4096x16384 ![0, 1] bcast_S1x16384_S4096x16384_0_1 (broadcastInDim S1x16384 ![1] bcast_S16384_S1x16384_1 (Host.reduceAdd (mulf p p) (constant S_ .f32 0x00000000#32) reducesTo_S16384x768_S16384_d1 h_S_)))) (mulf (broadcastInDim S4096x16384 ![] bcast_S_S4096x16384 (constant S_ .f32 0x40000000#32)) (Host.dotGeneral dot_S4096x768_S768x16384_S4096x16384_1_0_0_1_n_n none q (transpose S768x16384 [1, 0] p transposes_S16384x768_S768x16384_1_0))))

/-- The five greatest of each row. -/
def tops (d : FVec Ideal S4096x16384 .f32) : FVec Ideal S4096x5 .f32 :=
  (Host.topK S4096x5 1 (FloatOps.cmpfTotal (F := Ideal) (φ := .f32) .gt) d sliceFits_S4096x16384_S4096x5).1

/-- The scores, from the five greatest. -/
def scores (v : FVec Ideal S4096x5 .f32) : FVec Ideal S4096 .f32 :=
  Host.divf (broadcastInDim S4096 ![] bcast_S_S4096 (constant S_ .f32 0x3F800000#32)) (addf (broadcastInDim S4096 ![] bcast_S_S4096 (constant S_ .f32 0x3F800000#32)) (Host.exp (Host.negf (subf (Host.divf (Host.reduceAdd (Host.negf v) (constant S_ .f32 0x00000000#32) reducesTo_S4096x5_S4096_d1 h_S_) (broadcastInDim S4096 ![] bcast_S_S4096 (constant S_ .f32 0x40A00000#32))) (broadcastInDim S4096 ![] bcast_S_S4096 (constant S_ .f32 0x3F800000#32))))))

/-- The result of the reference, in stages. -/
theorem res_eq (m : (ℓ : Loc nD τ sig) → Buf (Elt Ideal) ℓ) (c : Dev nD) :
    (Value.res_out0 m c : S2x2048.Idx → EReal) = shapeCast S2x2048 (scores (tops (negd (shapeCast S4096x768 (queries (feats
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))
      (m ((c.tc : Thread nD τ).loc main_arg6))) shapeCasts_S2x2048x768_S4096x768) (m ((c.tc : Thread nD τ).loc main_arg7)))))
      shapeCasts_S4096_S2x2048 := by
  unfold Value.res_out0 Value.res_main_v56
  rfl

/-- The two layers. -/
theorem feats_at {x : FVec Ideal S2x2048x768 .f32} {w1 : FVec Ideal S768x1536 .f32} {b1 : FVec Ideal S1536 .f32} {w2 : FVec Ideal S1536x768 .f32}
    {b2 : FVec Ideal S768 .f32} {b : Fin 2} {s : Fin 2048} {X : Fin 768 → EReal} {W1 : Fin 768 → Fin 1536 → EReal} {B1 : Fin 1536 → EReal}
    {W2 : Fin 1536 → Fin 768 → EReal} {B2 : Fin 768 → EReal}
    (hx : ∀ k, x (ix3 b s k) = X k) (hw1 : ∀ i j, w1 (ix2 i j) = W1 i j) (hb1 : ∀ j, b1 (ix1 j) = B1 j)
    (hw2 : ∀ i j, w2 (ix2 i j) = W2 i j) (hb2 : ∀ j, b2 (ix1 j) = B2 j) (k : Fin 768) :
    feats x w1 b1 w2 b2 (ix3 b s k) = feat X W1 B1 W2 B2 k := by
  pointwise [feats]
  simp only [hx, hw1, hb1, hw2, hb2]
  rfl

/-- A row's sum. -/
theorem sums_at {f : FVec Ideal S2x2048x768 .f32} {b : Fin 2} {s : Fin 2048} {f' : Fin 768 → EReal} (hf : ∀ k, f (ix3 b s k) = f' k) :
    sums f (ix3 b s 0) = ∑ k, f' k := by
  pointwise [sums]
  simp only [hf]

/-- The centered row. -/
theorem cents_at {f : FVec Ideal S2x2048x768 .f32} {b : Fin 2} {s : Fin 2048} {f' : Fin 768 → EReal} (hf : ∀ k, f (ix3 b s k) = f' k) (k : Fin 768) :
    cents f (ix3 b s k) = centE f' k := by
  pointwise [cents]
  rw [hf, sums_at hf, bits_768]
  rfl

/-- The variance. -/
theorem vars_at {f : FVec Ideal S2x2048x768 .f32} {b : Fin 2} {s : Fin 2048} {f' : Fin 768 → EReal} (hf : ∀ k, f (ix3 b s k) = f' k) :
    vars f (ix3 b s 0) = varE f' := by
  have hs : (FloatOps.sitofp (F := Ideal) .f32 (0#32 : BitVec 32) : EReal) = ((0 : ℝ) : EReal) := by
    show (((0#32 : BitVec 32).toInt : ℝ) : EReal) = _
    norm_num
  have hm : ∀ k, mulf (cents f) (cents f) (ix3 b s k) = centE f' k * centE f' k := fun k => by
    pointwise []
    rw [cents_at hf]
  pointwise [vars]
  rw [hs, bits_768, ← EReal.coe_sub, sub_zero, if_pos (by exact_mod_cast (by norm_num : (0 : ℝ) < 768)), sums_at hm]
  rfl

/-- The normalized row. -/
theorem queries_at {f : FVec Ideal S2x2048x768 .f32} {g be : FVec Ideal S768 .f32} {b : Fin 2} {s : Fin 2048} {f' : Fin 768 → EReal} {G B : Fin 768 → ℝ}
    (hf : ∀ k, f (ix3 b s k) = f' k) (hg : ∀ k, g (ix1 k) = (G k : EReal)) (hb : ∀ k, be (ix1 k) = (B k : EReal)) (k : Fin 768) :
    queries f g be (ix3 b s k) = (row f' G B k : EReal) := by
  pointwise [queries]
  rw [hg, hb, cents_at hf, vars_at hf, bits_eps]
  exact row_sqrt f' G B k

/-- The distances' negatives at real entries. -/
theorem negd_real {q : FVec Ideal S4096x768 .f32} {p : FVec Ideal S16384x768 .f32} {R : Fin 4096} {j : Fin 16384} {Q P : Fin 768 → ℝ}
    (hq : ∀ k, q (ix2 R k) = (Q k : EReal)) (hp : ∀ k, p (ix2 j k) = (P k : EReal)) :
    negd q p (ix2 R j) = ((-(norm2 Q + (norm2 P + ∑ k, (-2 * Q k) * P k)) : ℝ) : EReal) := by
  pointwise [negd]
  simp only [hq, hp, bits_2, ← EReal.coe_mul, ← coe_sum, ← EReal.coe_add, ← EReal.coe_sub, ← EReal.coe_neg]
  congr 2
  have : ∑ k, (-2 * Q k) * P k = -(2 * ∑ k, Q k * P k) := by
    rw [Finset.mul_sum, ← Finset.sum_neg_distrib]
    exact Finset.sum_congr rfl fun k _ => by ring
  rw [this]
  unfold norm2
  ring

/-- The scores at real entries. -/
theorem scores_real {v : FVec Ideal S4096x5 .f32} {R : Fin 4096} {V : Fin 5 → ℝ} (hv : ∀ t, v (ix2 R t) = ((-V t : ℝ) : EReal)) :
    scores v (ix1 R) = (((1 + Real.exp (-((∑ t, V t) * (1 / 5) - 1)))⁻¹ : ℝ) : EReal) := by
  have hpos : 0 < 1 + Real.exp (-((∑ t, V t) * (1 / 5) - 1)) := by positivity
  pointwise [scores]
  simp only [hv, ← EReal.coe_neg, neg_neg, ← coe_sum]
  rw [bits_5, div_real _ (by norm_num), ← EReal.coe_one, ← EReal.coe_sub, ← EReal.coe_neg, Ideal.exp_coe, ← EReal.coe_add,
    div_real _ hpos.ne', one_mul, one_div]

/-- The five greatest: the first of a row read along a rearrangement in descending order. -/
theorem tops_at (d : FVec Ideal S4096x16384 .f32) (R : Fin 4096) : ∃ π : Fin 16384 → Fin 16384, Function.Injective π ∧
    (∀ i j, i < j → d (ix2 R (π j)) ≤ d (ix2 R (π i))) ∧ ∀ t : Fin 5, tops d (ix2 R t) = d (ix2 R (π (t.castLE (by norm_num)))) := by
  let B : Fin 16384 → Fin 16384 → Bool := fun k k' => FloatOps.cmpfTotal (F := Ideal) (φ := .f32) .gt (d (ix2 R k)) (d (ix2 R k')) == 1#1
  have hB : ∀ k k', B k k' = true ↔ d (ix2 R k') < d (ix2 R k) := by
    intro k k'
    show (BitVec.ofBool (decide (d (ix2 R k') < d (ix2 R k))) == 1#1) = true ↔ _
    by_cases h : d (ix2 R k') < d (ix2 R k) <;> simp [h]
  have hB' : ∀ k k', B k k' = false ↔ d (ix2 R k) ≤ d (ix2 R k') := fun k k' => by
    rw [← Bool.not_eq_true, hB, not_lt]
  refine ⟨sortedFrom B, sortedFrom_injective B, fun i j hij => ?_, fun t => ?_⟩
  · exact (hB' _ _).1 (sortedFrom_noInversion B B (fun a b h => (hB' _ _).2 ((hB _ _).1 h).le) (fun _ _ h => h)
      (fun a b c h h' => (hB' _ _).2 (((hB' _ _).1 h).trans ((hB' _ _).1 h'))) i j hij)
  · have al : ∀ (t : Fin 16384) k, (ix2 R t : S4096x16384.Idx).along 1 k = ix2 R k := fun t k => by
      funext a; fin_cases a
      · rfl
      · rfl
    have e : tops d (ix2 R t) = (Host.sort2 S4096x16384 1 (fun l r => FloatOps.cmpfTotal (F := Ideal) (φ := .f32) .gt l.1 r.1) d
        (fun i => iotaInDim S4096x16384 32 1 i)).1 (ix2 R (t.castLE (by norm_num) : Fin 16384)) := by
      refine congrArg (Host.sort2 S4096x16384 1 (fun l r => FloatOps.cmpfTotal (F := Ideal) (φ := .f32) .gt l.1 r.1) d
        (fun i => iotaInDim S4096x16384 32 1 i)).1 ?_
      funext a; apply Fin.ext; fin_cases a
      · show 0 + R.val = R.val
        omega
      · show 0 + t.val = t.val
        omega
    rw [e]
    show d ((ix2 R (t.castLE (by norm_num) : Fin 16384) : S4096x16384.Idx).along 1 (sortedFrom (fun k k' => FloatOps.cmpfTotal (F := Ideal) (φ := .f32) .gt
      (d ((ix2 R (t.castLE (by norm_num) : Fin 16384) : S4096x16384.Idx).along 1 k)) (d ((ix2 R (t.castLE (by norm_num) : Fin 16384) : S4096x16384.Idx).along 1 k')) == 1#1) (t.castLE (by norm_num)))) = _
    simp only [al]
    rfl

variable (m : (ℓ : Loc nD τ sig) → Buf (Elt Ideal) ℓ)

/-- The arguments' entries; of the scale, the shift and the stored rows, they are reals. -/
structure Entries (a : Args) (c : Dev nD) : Prop where
  x : ∀ (b : Fin 2) (s : Fin 2048) k, (m ((c.tc : Thread nD τ).loc main_arg0) : S2x2048x768.Idx → EReal) (ix3 b s k) = a.X (2048 * b.val + s.val) k
  w1 : ∀ j k, (m ((c.tc : Thread nD τ).loc main_arg1) : S768x1536.Idx → EReal) (ix2 j k) = a.W1 j k
  b1 : ∀ k, (m ((c.tc : Thread nD τ).loc main_arg2) : S1536.Idx → EReal) (ix1 k) = a.B1 k
  w2 : ∀ j k, (m ((c.tc : Thread nD τ).loc main_arg3) : S1536x768.Idx → EReal) (ix2 j k) = a.W2 j k
  b2 : ∀ k, (m ((c.tc : Thread nD τ).loc main_arg4) : S768.Idx → EReal) (ix1 k) = a.B2 k
  g : ∀ k, (m ((c.tc : Thread nD τ).loc main_arg5) : S768.Idx → EReal) (ix1 k) = (a.G k : EReal)
  be : ∀ k, (m ((c.tc : Thread nD τ).loc main_arg6) : S768.Idx → EReal) (ix1 k) = (a.Be k : EReal)
  p : ∀ (j : Fin 16384) k, (m ((c.tc : Thread nD τ).loc main_arg7) : S16384x768.Idx → EReal) (ix2 j k) = (a.P j.val k : EReal)

/-- The result of the reference at a real scale, shift and stored rows: each row's score, from its five smallest distances. -/
theorem ref_scores {a : Args} {c : Dev nD} (E : Entries m a c) : ∃ S5 : ℕ → Fin 5 → ℝ,
    (∀ R < 4096, ∀ θ < ⊤, At (fun t => ((S5 R t : ℝ) : EReal)) θ
      (∑ j ∈ Finset.range 16384, if ((a.dist R j : ℝ) : EReal) ≤ θ then 1 else 0)) ∧
    ∀ (b : Fin 2) (s : Fin 2048), (Value.res_out0 m c : S2x2048.Idx → EReal) (ix2 b s)
      = (a.score (2048 * b.val + s.val) (S5 (2048 * b.val + s.val)) : EReal) := by
  have hd : ∀ (R : Fin 4096) (j : Fin 16384), negd (shapeCast S4096x768 (queries (feats
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))
      (m ((c.tc : Thread nD τ).loc main_arg6))) shapeCasts_S2x2048x768_S4096x768) (m ((c.tc : Thread nD τ).loc main_arg7)) (ix2 R j)
      = ((-(norm2 (a.Q R.val) + a.dist R.val j.val) : ℝ) : EReal) := fun R j => by
    refine negd_real (Q := a.Q R.val) (P := a.P j.val) (fun k => ?_) (fun k => E.p j k)
    have hR := R.isLt
    rw [shapeCast_apply _ _ _ (ix3 (⟨R.val / 2048, by omega⟩ : Fin 2) (⟨R.val % 2048, by omega⟩ : Fin 2048) k)]
    · refine queries_at (fun k => feats_at (X := a.X R.val) (fun i => ?_) E.w1 E.b1 E.w2 E.b2 k) E.g E.be k
      rw [E.x]
      congr 1
      show 2048 * (R.val / 2048) + R.val % 2048 = R.val
      omega
    · rw [Shape.rowMajor_val_three, Shape.rowMajor_val_two]
      show ((R.val / 2048) * 2048 + R.val % 2048) * 768 + k.val = R.val * 768 + k.val
      omega
  choose π hinj hmono htop using tops_at (negd (shapeCast S4096x768 (queries (feats
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))
      (m ((c.tc : Thread nD τ).loc main_arg6))) shapeCasts_S2x2048x768_S4096x768) (m ((c.tc : Thread nD τ).loc main_arg7)))
  have hle : ∀ R i j, i < j → a.dist R.val (π R i).val ≤ a.dist R.val (π R j).val := fun R i j hij => by
    have h := hmono R i j hij
    rw [hd, hd, EReal.coe_le_coe_iff] at h
    linarith
  refine ⟨fun R t => if h : R < 4096 then a.dist R (π ⟨R, h⟩ (t.castLE (by norm_num))).val else 0, fun R hR θ _ => ?_, fun b s => ?_⟩
  · rw [← Fin.sum_univ_eq_sum_range (fun j => if ((a.dist R j : ℝ) : EReal) ≤ θ then 1 else 0)]
    simp only [dif_pos hR]
    exact At.of_sorted (k := 5) (by norm_num) (fun j : Fin 16384 => ((a.dist R j.val : ℝ) : EReal)) (π ⟨R, hR⟩) (hinj ⟨R, hR⟩)
      (fun i j hij => EReal.coe_le_coe_iff.2 (hle ⟨R, hR⟩ i j hij)) θ
  · have hR : 2048 * b.val + s.val < 4096 := by omega
    rw [res_eq, shapeCast_apply _ _ _ (ix1 (⟨2048 * b.val + s.val, hR⟩ : Fin 4096)),
      scores_real (V := fun t => norm2 (a.Q (2048 * b.val + s.val)) + a.dist (2048 * b.val + s.val) (π ⟨_, hR⟩ (t.castLE (by norm_num))).val)
        (fun t => (htop ⟨_, hR⟩ t).trans (hd _ _))]
    · unfold Args.score
      simp only [dif_pos hR]
      congr 5
      rw [Finset.sum_add_distrib, Finset.sum_const, Finset.card_univ, Fintype.card_fin]
      ring
    · rw [Shape.rowMajor_val_one, Shape.rowMajor_val_two]
      show 2048 * b.val + s.val = b.val * 2048 + s.val
      omega

end Cert.ReferenceIdeal.Hand

end
-- ==== Proof.Equal.lean ====
module

public import proofs.«01_k».proof.Defs
public import proofs.«01_k».proof.Proof.Out
public import proofs.«01_k».proof.Proof.Ref

@[expose] public section

noncomputable section

namespace Cert.Equal

open Cert.Smallest Cert.Nearest
open Idealize.ShloMosaic Idealize.ShloMosaic.TcCoe Idealize.SL.Sem

/-- The shapes the precondition compares agree. -/
theorem finite_facts : Cert.Pre_finite_gamma_beta_memory.Facts :=
  ⟨by decide, by decide⟩

/-- An entry whose absolute value is below infinity is a real. -/
theorem real_of_finite {s : Shape} (hb : Cert.Pre_finite_gamma_beta_memory.S_.BroadcastsInDim s (![] : Fin 0 → Fin s.rank)) (x : FVec Ideal s .f32)
    (h : cmpf .olt (Host.absf x) (broadcastInDim s ![] hb (constant (F := Ideal) Cert.Pre_finite_gamma_beta_memory.S_ .f32 0x7F800000#32)) = fun _ => 1#1)
    (i : s.Idx) : (x i : EReal) = ((EReal.toReal (x i) : ℝ) : EReal) := by
  have h1 : BitVec.ofBool (decide (max (x i : EReal) (-(x i)) < Ideal.ofBits .f32 0x7F800000#32)) = 1#1 := congrFun h i
  rw [bits_top] at h1
  have h2 : max (x i : EReal) (-(x i)) < ⊤ := by
    by_contra hc
    rw [decide_eq_false hc] at h1
    exact absurd h1 (by decide)
  have h3 := max_lt_iff.1 h2
  refine (EReal.coe_toReal h3.1.ne fun hbot => ?_).symm
  rw [hbot] at h3
  exact absurd h3.2 (by simp)

variable (m : (ℓ : Loc Cert.KernelIdeal.nD Cert.KernelIdeal.τ Cert.KernelIdeal.sig) → Buf (Elt Ideal) ℓ)

/-- The entries of the arguments. -/
def args (c : Dev Cert.KernelIdeal.nD) : Args where
  X r k := if h : r < 4096 then (m ((c.tc : Thread Cert.KernelIdeal.nD Cert.KernelIdeal.τ).loc Cert.KernelIdeal.main_arg0) : Cert.KernelIdeal.S2x2048x768.Idx → EReal)
    (ix3 (⟨r / 2048, by omega⟩ : Fin 2) (⟨r % 2048, by omega⟩ : Fin 2048) k) else 0
  W1 j k := (m ((c.tc : Thread Cert.KernelIdeal.nD Cert.KernelIdeal.τ).loc Cert.KernelIdeal.main_arg1) : Cert.KernelIdeal.S768x1536.Idx → EReal) (ix2 j k)
  B1 k := (m ((c.tc : Thread Cert.KernelIdeal.nD Cert.KernelIdeal.τ).loc Cert.KernelIdeal.main_arg2) : Cert.KernelIdeal.S1536.Idx → EReal) (ix1 k)
  W2 j k := (m ((c.tc : Thread Cert.KernelIdeal.nD Cert.KernelIdeal.τ).loc Cert.KernelIdeal.main_arg3) : Cert.KernelIdeal.S1536x768.Idx → EReal) (ix2 j k)
  B2 k := (m ((c.tc : Thread Cert.KernelIdeal.nD Cert.KernelIdeal.τ).loc Cert.KernelIdeal.main_arg4) : Cert.KernelIdeal.S768.Idx → EReal) (ix1 k)
  G k := EReal.toReal ((m ((c.tc : Thread Cert.KernelIdeal.nD Cert.KernelIdeal.τ).loc Cert.KernelIdeal.main_arg5) : Cert.KernelIdeal.S768.Idx → EReal) (ix1 k))
  Be k := EReal.toReal ((m ((c.tc : Thread Cert.KernelIdeal.nD Cert.KernelIdeal.τ).loc Cert.KernelIdeal.main_arg6) : Cert.KernelIdeal.S768.Idx → EReal) (ix1 k))
  P r k := if h : r < 16384 then EReal.toReal ((m ((c.tc : Thread Cert.KernelIdeal.nD Cert.KernelIdeal.τ).loc Cert.KernelIdeal.main_arg7) : Cert.KernelIdeal.S16384x768.Idx → EReal)
    (ix2 (⟨r, h⟩ : Fin 16384) k)) else 0

/-- A finite scale, shift and memory have real entries. -/
theorem entries (h : Cert.Pre_KernelIdeal_finite_gamma_beta_memory (hPre_finite_gamma_beta_memory := finite_facts) m) (c : Dev Cert.KernelIdeal.nD) :
    Cert.KernelIdeal.Hand.Entries m (args m c) c := by
  obtain ⟨h5, h6, h7⟩ := h c
  refine ⟨fun b s k => ?_, fun j k => rfl, fun k => rfl, fun j k => rfl, fun k => rfl, fun k => real_of_finite _ _ h5 _,
    fun k => real_of_finite _ _ h6 _, fun j k => ?_⟩
  · refine Eq.symm ?_
    have hr : 2048 * b.val + s.val < 4096 := by omega
    show (if h : 2048 * b.val + s.val < 4096 then _ else (0 : EReal)) = _
    rw [dif_pos hr]
    have e1 : (⟨(2048 * b.val + s.val) / 2048, by omega⟩ : Fin 2) = b := Fin.ext (by show (2048 * b.val + s.val) / 2048 = b.val; omega)
    have e2 : (⟨(2048 * b.val + s.val) % 2048, by omega⟩ : Fin 2048) = s := Fin.ext (by show (2048 * b.val + s.val) % 2048 = s.val; omega)
    rw [e1, e2]
  · refine (real_of_finite _ _ h7 _).trans ?_
    show _ = ((if h : j.val < 16384 then _ else (0 : ℝ) : ℝ) : EReal)
    rw [dif_pos j.isLt]

/-- Where scale, shift and memory are finite, the kernel and the reference give equal results. -/
theorem equal : Cert.algebraic_KernelIdeal_ReferenceIdeal_pre_finite_gamma_beta_memory (hKernelIdeal := Cert.KernelIdeal.Gen.facts)
    (hReferenceIdeal := Cert.ReferenceIdeal.Gen.facts) (hPre_finite_gamma_beta_memory := finite_facts) := by
  intro m g m' g' hpre hm
  have hE := entries m hpre
  have hE' : ∀ c, Cert.ReferenceIdeal.Hand.Entries m' (args m c) c := fun c => by
    obtain ⟨e0, e1, e2, e3, e4, e5, e6, e7⟩ := hm c
    exact ⟨fun b s k => (congrFun e0 _).trans ((hE c).x b s k), fun j k => (congrFun e1 _).trans ((hE c).w1 j k),
      fun k => (congrFun e2 _).trans ((hE c).b1 k), fun j k => (congrFun e3 _).trans ((hE c).w2 j k),
      fun k => (congrFun e4 _).trans ((hE c).b2 k), fun k => (congrFun e5 _).trans ((hE c).g k),
      fun k => (congrFun e6 _).trans ((hE c).be k), fun j k => (congrFun e7 _).trans ((hE c).p j k)⟩
  choose S5 hS hv using fun c => Cert.ReferenceIdeal.Hand.ref_scores m' (hE' c)
  refine ⟨fun c => Cert.ReferenceIdeal.Value.res_out0 m' c,
    (θ_run _ _ _).mono (fun r h c => ⟨?_, (h c).2⟩) (Cert.KernelIdeal.Hand.run_scores m g (args m) hE S5 hS),
    Cert.ReferenceIdeal.Value.run m' g'⟩
  refine funext fun i : Cert.KernelIdeal.S2x2048.Idx => ?_
  have ei : i = ix2 (i 0) (i 1) := by
    funext a; fin_cases a <;> rfl
  rw [ei]
  exact ((h c).1 (i 0) (i 1)).trans (hv c (i 0) (i 1)).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.ILaunch
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs to the end, leaves its arguments as they were, and has no semaphore to leave raised. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The claims of the certificate. -/
theorem claim : Cert.Claim :=
  ⟨Cert.Kernel.Gen.facts, Cert.KernelIdeal.Gen.facts, Cert.ReferenceIdeal.Gen.facts, Cert.Equal.finite_facts,
    fun m g _ => Cert.Kernel.Hand.frame_all m g, fun m g _ => Cert.KernelIdeal.Hand.frame_all m g,
    fun m g _ => Cert.KernelIdeal.Hand.frame_all m g, frame_reference, fun m g _ => frame_reference m g trivial,
    trivial, Cert.Equal.equal⟩

end Cert.Proof

end
